-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S3 : Shape := ⟨1, ![3]⟩
abbrev S2x3 : Shape := ⟨2, ![2, 3]⟩
abbrev S_ : Shape := ⟨0, ![]⟩
abbrev S1 : Shape := ⟨1, ![1]⟩
abbrev S256x512 : Shape := ⟨2, ![256, 512]⟩
abbrev S1x1 : Shape := ⟨2, ![1, 1]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S4096x512, .f32⟩
  | .local _ .vmem, ⟨0, _⟩ => ⟨S1024x512, .f32⟩
  | .local _ .vmem, ⟨1, _⟩ => ⟨S4096x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_13 : BitVec 32 := 8#32
  let v24 : BitVec 32 := Scalar.muli v21 c8_i32_13
  let v25 : BitVec 32 := Scalar.addi c0_i32 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v26 : BitVec 32 := Scalar.muli v5 c4_i32_14
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v28 : BitVec 32 := Scalar.muli v8 c1_i32_15
  let v29 : BitVec 32 := Scalar.addi v27 v28
  v29.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v30 : BitVec 32 := Scalar.muli v2 c8_i32_17
  let v31 : BitVec 32 := Scalar.addi c0_i32_18 v30
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_19 : BitVec 32 := 4#32
  let v32 : BitVec 32 := Scalar.muli v22 c4_i32_19
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v34 : BitVec 32 := Scalar.muli v8 c1_i32_20
  let v35 : BitVec 32 := Scalar.addi v33 v34
  v35.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v36 : BitVec 1 := Scalar.cmpi .sge v8 c1_i32_21
  let v37 : BitVec 32 := Scalar.extui v36
  let c0_i32_22 : BitVec 32 := 0#32
  let v38 : BitVec 1 := Scalar.cmpi .ne v37 c0_i32_22
  v38

def k0_dev3 (d0 : Dev nD) : Nat :=
  let c0_i32_835 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_834 : BitVec 32 := 8#32
  let v725 : BitVec 32 := Scalar.muli v2 c8_i32_834
  let v726 : BitVec 32 := Scalar.addi c0_i32_835 v725
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_836 : BitVec 32 := 4#32
  let v727 : BitVec 32 := Scalar.muli v5 c4_i32_836
  let v728 : BitVec 32 := Scalar.addi v726 v727
  let c3_i32_832 : BitVec 32 := 3#32
  let c0_i32_831 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v722 : BitVec 32 := Scalar.subi v8 c1_i32_830
  let v723 : BitVec 32 := Scalar.maxsi c0_i32_831 v722
  let v724 : BitVec 32 := Scalar.minsi c3_i32_832 v723
  let c1_i32_837 : BitVec 32 := 1#32
  let v729 : BitVec 32 := Scalar.muli v724 c1_i32_837
  let v730 : BitVec 32 := Scalar.addi v728 v729
  v730.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_23 : BitVec 32 := 2#32
  let v39 : BitVec 1 := Scalar.cmpi .sle v8 c2_i32_23
  let v40 : BitVec 32 := Scalar.extui v39
  let c0_i32_24 : BitVec 32 := 0#32
  let v41 : BitVec 1 := Scalar.cmpi .ne v40 c0_i32_24
  v41

def k0_dev4 (d0 : Dev nD) : Nat :=
  let c0_i32_835 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_834 : BitVec 32 := 8#32
  let v725 : BitVec 32 := Scalar.muli v2 c8_i32_834
  let v726 : BitVec 32 := Scalar.addi c0_i32_835 v725
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_836 : BitVec 32 := 4#32
  let v727 : BitVec 32 := Scalar.muli v5 c4_i32_836
  let v728 : BitVec 32 := Scalar.addi v726 v727
  let c3_i32_832 : BitVec 32 := 3#32
  let c0_i32_831 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v722 : BitVec 32 := Scalar.addi v8 c1_i32_830
  let v723 : BitVec 32 := Scalar.maxsi c0_i32_831 v722
  let v724 : BitVec 32 := Scalar.minsi c3_i32_832 v723
  let c1_i32_837 : BitVec 32 := 1#32
  let v729 : BitVec 32 := Scalar.muli v724 c1_i32_837
  let v730 : BitVec 32 := Scalar.addi v728 v729
  v730.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_30 : BitVec 32 := 0#32
  let v52 : BitVec 1 := Scalar.cmpi .sge v8 c0_i32_30
  let c2_i32_31 : BitVec 32 := 2#32
  let v53 : BitVec 1 := Scalar.cmpi .sle v8 c2_i32_31
  let v54 : BitVec 1 := Scalar.andi v52 v53
  let v65 : BitVec 32 := Scalar.extui v54
  let c0_i32_41 : BitVec 32 := 0#32
  let v66 : BitVec 1 := Scalar.cmpi .ne v65 c0_i32_41
  v66

def k0_off1 (d0 : Dev nD) : Fin 2 → Nat :=
  let c3_i32_34 : BitVec 32 := 3#32
  let c0_i32_33 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_32 : BitVec 32 := 0#32
  let v55 : BitVec 32 := Scalar.subi v8 c0_i32_32
  let v56 : BitVec 32 := Scalar.maxsi c0_i32_33 v55
  let v57 : BitVec 32 := Scalar.minsi c3_i32_34 v56
  let c1024_i32 : BitVec 32 := 1024#32
  let v62 : BitVec 32 := Scalar.muli v57 c1024_i32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_38 : BitVec 32 := 256#32
  let v63 : BitVec 32 := Scalar.muli v10 c256_i32_38
  let v64 : BitVec 32 := Scalar.addi v62 v63
  let c0_i32_834 : BitVec 32 := 0#32
  ![v64.toNat, 0]
def k0_off2 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v61 : BitVec 32 := Scalar.muli v10 c256_i32
  let c0_i32_835 : BitVec 32 := 0#32
  ![v61.toNat, 0]
def k0_dev5 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_37 : BitVec 32 := 3#32
  let c0_i32_36 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v58 : BitVec 32 := Scalar.addi v8 c1_i32_35
  let v59 : BitVec 32 := Scalar.maxsi c0_i32_36 v58
  let v60 : BitVec 32 := Scalar.minsi c3_i32_37 v59
  let c1_i32_833 : BitVec 32 := 1#32
  let v726 : BitVec 32 := Scalar.muli v60 c1_i32_833
  let v727 : BitVec 32 := Scalar.addi v725 v726
  v727.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v67 : BitVec 1 := Scalar.cmpi .sge v8 c1_i32_42
  let c0_i32_43 : BitVec 32 := 0#32
  let v68 : BitVec 32 := Scalar.addi v8 c0_i32_43
  let c3_i32_44 : BitVec 32 := 3#32
  let v69 : BitVec 1 := Scalar.cmpi .sle v68 c3_i32_44
  let v70 : BitVec 1 := Scalar.andi v67 v69
  let v81 : BitVec 32 := Scalar.extui v70
  let c0_i32_56 : BitVec 32 := 0#32
  let v82 : BitVec 1 := Scalar.cmpi .ne v81 c0_i32_56
  v82

def k0_off3 (d0 : Dev nD) : Fin 2 → Nat :=
  let c3_i32_47 : BitVec 32 := 3#32
  let c0_i32_46 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v71 : BitVec 32 := Scalar.addi v8 c0_i32_45
  let v72 : BitVec 32 := Scalar.maxsi c0_i32_46 v71
  let v73 : BitVec 32 := Scalar.minsi c3_i32_47 v72
  let c1024_i32_52 : BitVec 32 := 1024#32
  let v78 : BitVec 32 := Scalar.muli v73 c1024_i32_52
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_53 : BitVec 32 := 256#32
  let v79 : BitVec 32 := Scalar.muli v10 c256_i32_53
  let v80 : BitVec 32 := Scalar.addi v78 v79
  let c0_i32_834 : BitVec 32 := 0#32
  ![v80.toNat, 0]
def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_51 : BitVec 32 := 256#32
  let v77 : BitVec 32 := Scalar.muli v10 c256_i32_51
  let c0_i32_835 : BitVec 32 := 0#32
  ![v77.toNat, 0]
def k0_dev6 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_50 : BitVec 32 := 3#32
  let c0_i32_49 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v74 : BitVec 32 := Scalar.subi v8 c1_i32_48
  let v75 : BitVec 32 := Scalar.maxsi c0_i32_49 v74
  let v76 : BitVec 32 := Scalar.minsi c3_i32_50 v75
  let c1_i32_833 : BitVec 32 := 1#32
  let v726 : BitVec 32 := Scalar.muli v76 c1_i32_833
  let v727 : BitVec 32 := Scalar.addi v725 v726
  v727.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_58 : BitVec 32 := 1024#32
  let v85 : BitVec 32 := Scalar.muli v8 c1024_i32_58
  let v86 : Index := Scalar.indexCast v85
  let c0_59 : Index := 0#32
  ![v86.toNat, 0]
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v88 : BitVec 1 := Scalar.cmpi .sge v8 c1_i32_60
  let v99 : BitVec 32 := Scalar.extui v88
  let c0_i32_71 : BitVec 32 := 0#32
  let v100 : BitVec 1 := Scalar.cmpi .ne v99 c0_i32_71
  v100

def k0_off6 (d0 : Dev nD) : Fin 2 → Nat :=
  let c3_i32_64 : BitVec 32 := 3#32
  let c0_i32_63 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v89 : BitVec 32 := Scalar.subi v8 c1_i32_61
  let c0_i32_62 : BitVec 32 := 0#32
  let v90 : BitVec 32 := Scalar.subi v89 c0_i32_62
  let v91 : BitVec 32 := Scalar.maxsi c0_i32_63 v90
  let v92 : BitVec 32 := Scalar.minsi c3_i32_64 v91
  let c1024_i32_67 : BitVec 32 := 1024#32
  let v96 : BitVec 32 := Scalar.muli v92 c1024_i32_67
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_68 : BitVec 32 := 256#32
  let v97 : BitVec 32 := Scalar.muli v10 c256_i32_68
  let v98 : BitVec 32 := Scalar.addi v96 v97
  let c0_i32_834 : BitVec 32 := 0#32
  ![v98.toNat, 0]
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v101 : BitVec 1 := Scalar.cmpi .sge v8 c1_i32_72
  let c2_i32_73 : BitVec 32 := 2#32
  let v102 : BitVec 1 := Scalar.cmpi .sle v8 c2_i32_73
  let v103 : BitVec 1 := Scalar.andi v101 v102
  let v116 : BitVec 32 := Scalar.extui v103
  let c0_i32_86 : BitVec 32 := 0#32
  let v117 : BitVec 1 := Scalar.cmpi .ne v116 c0_i32_86
  v117

def k0_off7 (d0 : Dev nD) : Fin 2 → Nat :=
  let c3_i32_76 : BitVec 32 := 3#32
  let c0_i32_75 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v104 : BitVec 32 := Scalar.subi v8 c1_i32_74
  let v105 : BitVec 32 := Scalar.maxsi c0_i32_75 v104
  let v106 : BitVec 32 := Scalar.minsi c3_i32_76 v105
  let c1024_i32_82 : BitVec 32 := 1024#32
  let v113 : BitVec 32 := Scalar.muli v106 c1024_i32_82
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_83 : BitVec 32 := 256#32
  let v114 : BitVec 32 := Scalar.muli v10 c256_i32_83
  let v115 : BitVec 32 := Scalar.addi v113 v114
  let c0_i32_834 : BitVec 32 := 0#32
  ![v115.toNat, 0]
def k0_dev7 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_79 : BitVec 32 := 3#32
  let c0_i32_78 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v107 : BitVec 32 := Scalar.addi v8 c1_i32_77
  let v108 : BitVec 32 := Scalar.maxsi c0_i32_78 v107
  let v109 : BitVec 32 := Scalar.minsi c3_i32_79 v108
  let c1_i32_833 : BitVec 32 := 1#32
  let v726 : BitVec 32 := Scalar.muli v109 c1_i32_833
  let v727 : BitVec 32 := Scalar.addi v725 v726
  v727.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v118 : BitVec 1 := Scalar.cmpi .sle v8 c2_i32_87
  let v129 : BitVec 32 := Scalar.extui v118
  let c0_i32_98 : BitVec 32 := 0#32
  let v130 : BitVec 1 := Scalar.cmpi .ne v129 c0_i32_98
  v130

def k0_off8 (d0 : Dev nD) : Fin 2 → Nat :=
  let c3_i32_91 : BitVec 32 := 3#32
  let c0_i32_90 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v119 : BitVec 32 := Scalar.addi v8 c1_i32_88
  let c0_i32_89 : BitVec 32 := 0#32
  let v120 : BitVec 32 := Scalar.addi v119 c0_i32_89
  let v121 : BitVec 32 := Scalar.maxsi c0_i32_90 v120
  let v122 : BitVec 32 := Scalar.minsi c3_i32_91 v121
  let c1024_i32_94 : BitVec 32 := 1024#32
  let v126 : BitVec 32 := Scalar.muli v122 c1024_i32_94
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_95 : BitVec 32 := 256#32
  let v127 : BitVec 32 := Scalar.muli v10 c256_i32_95
  let v128 : BitVec 32 := Scalar.addi v126 v127
  let c0_i32_834 : BitVec 32 := 0#32
  ![v128.toNat, 0]
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v131 : BitVec 1 := Scalar.cmpi .sge v8 c1_i32_99
  let c1_i32_100 : BitVec 32 := 1#32
  let v132 : BitVec 32 := Scalar.addi v8 c1_i32_100
  let c3_i32_101 : BitVec 32 := 3#32
  let v133 : BitVec 1 := Scalar.cmpi .sle v132 c3_i32_101
  let v134 : BitVec 1 := Scalar.andi v131 v133
  let v147 : BitVec 32 := Scalar.extui v134
  let c0_i32_114 : BitVec 32 := 0#32
  let v148 : BitVec 1 := Scalar.cmpi .ne v147 c0_i32_114
  v148

def k0_off9 (d0 : Dev nD) : Fin 2 → Nat :=
  let c3_i32_104 : BitVec 32 := 3#32
  let c0_i32_103 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v135 : BitVec 32 := Scalar.addi v8 c1_i32_102
  let v136 : BitVec 32 := Scalar.maxsi c0_i32_103 v135
  let v137 : BitVec 32 := Scalar.minsi c3_i32_104 v136
  let c1024_i32_110 : BitVec 32 := 1024#32
  let v144 : BitVec 32 := Scalar.muli v137 c1024_i32_110
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_111 : BitVec 32 := 256#32
  let v145 : BitVec 32 := Scalar.muli v10 c256_i32_111
  let v146 : BitVec 32 := Scalar.addi v144 v145
  let c0_i32_834 : BitVec 32 := 0#32
  ![v146.toNat, 0]
def k0_dev8 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_107 : BitVec 32 := 3#32
  let c0_i32_106 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v138 : BitVec 32 := Scalar.subi v8 c1_i32_105
  let v139 : BitVec 32 := Scalar.maxsi c0_i32_106 v138
  let v140 : BitVec 32 := Scalar.minsi c3_i32_107 v139
  let c1_i32_833 : BitVec 32 := 1#32
  let v726 : BitVec 32 := Scalar.muli v140 c1_i32_833
  let v727 : BitVec 32 := Scalar.addi v725 v726
  v727.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v149 : BitVec 1 := Scalar.cmpi .sge v8 c1_i32_115
  let v160 : BitVec 32 := Scalar.extui v149
  let c0_i32_128 : BitVec 32 := 0#32
  let v161 : BitVec 1 := Scalar.cmpi .ne v160 c0_i32_128
  v161

def k0_off10 (d0 : Dev nD) : Fin 2 → Nat :=
  let c3_i32_119 : BitVec 32 := 3#32
  let c0_i32_118 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v150 : BitVec 32 := Scalar.subi v8 c1_i32_116
  let c0_i32_117 : BitVec 32 := 0#32
  let v151 : BitVec 32 := Scalar.subi v150 c0_i32_117
  let v152 : BitVec 32 := Scalar.maxsi c0_i32_118 v151
  let v153 : BitVec 32 := Scalar.minsi c3_i32_119 v152
  let c1024_i32_122 : BitVec 32 := 1024#32
  let v157 : BitVec 32 := Scalar.muli v153 c1024_i32_122
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_123 : BitVec 32 := 256#32
  let v158 : BitVec 32 := Scalar.muli v10 c256_i32_123
  let v159 : BitVec 32 := Scalar.addi v157 v158
  let c0_i32_834 : BitVec 32 := 0#32
  ![v159.toNat, 0]
def k0_dev9 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v149 : BitVec 1 := Scalar.cmpi .sge v8 c1_i32_115
  let v168 : BitVec 32 := Scalar.extui v149
  let c0_i32_137 : BitVec 32 := 0#32
  let v169 : BitVec 1 := Scalar.cmpi .ne v168 c0_i32_137
  v169

def k0_off11 (d0 : Dev nD) : Fin 2 → Nat :=
  let c3_i32_119 : BitVec 32 := 3#32
  let c0_i32_118 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v150 : BitVec 32 := Scalar.subi v8 c1_i32_116
  let c0_i32_117 : BitVec 32 := 0#32
  let v151 : BitVec 32 := Scalar.subi v150 c0_i32_117
  let v152 : BitVec 32 := Scalar.maxsi c0_i32_118 v151
  let v153 : BitVec 32 := Scalar.minsi c3_i32_119 v152
  let c1024_i32_131 : BitVec 32 := 1024#32
  let v165 : BitVec 32 := Scalar.muli v153 c1024_i32_131
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_132 : BitVec 32 := 256#32
  let v166 : BitVec 32 := Scalar.muli v10 c256_i32_132
  let v167 : BitVec 32 := Scalar.addi v165 v166
  let c0_i32_834 : BitVec 32 := 0#32
  ![v167.toNat, 0]
def k0_dev10 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_138 : BitVec 32 := 2#32
  let v170 : BitVec 1 := Scalar.cmpi .sle v8 c2_i32_138
  let v181 : BitVec 32 := Scalar.extui v170
  let c0_i32_151 : BitVec 32 := 0#32
  let v182 : BitVec 1 := Scalar.cmpi .ne v181 c0_i32_151
  v182

def k0_off12 (d0 : Dev nD) : Fin 2 → Nat :=
  let c3_i32_142 : BitVec 32 := 3#32
  let c0_i32_141 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v171 : BitVec 32 := Scalar.addi v8 c1_i32_139
  let c0_i32_140 : BitVec 32 := 0#32
  let v172 : BitVec 32 := Scalar.addi v171 c0_i32_140
  let v173 : BitVec 32 := Scalar.maxsi c0_i32_141 v172
  let v174 : BitVec 32 := Scalar.minsi c3_i32_142 v173
  let c1024_i32_145 : BitVec 32 := 1024#32
  let v178 : BitVec 32 := Scalar.muli v174 c1024_i32_145
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_146 : BitVec 32 := 256#32
  let v179 : BitVec 32 := Scalar.muli v10 c256_i32_146
  let v180 : BitVec 32 := Scalar.addi v178 v179
  let c0_i32_834 : BitVec 32 := 0#32
  ![v180.toNat, 0]
def k0_dev11 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_138 : BitVec 32 := 2#32
  let v170 : BitVec 1 := Scalar.cmpi .sle v8 c2_i32_138
  let v189 : BitVec 32 := Scalar.extui v170
  let c0_i32_160 : BitVec 32 := 0#32
  let v190 : BitVec 1 := Scalar.cmpi .ne v189 c0_i32_160
  v190

def k0_off13 (d0 : Dev nD) : Fin 2 → Nat :=
  let c3_i32_142 : BitVec 32 := 3#32
  let c0_i32_141 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v171 : BitVec 32 := Scalar.addi v8 c1_i32_139
  let c0_i32_140 : BitVec 32 := 0#32
  let v172 : BitVec 32 := Scalar.addi v171 c0_i32_140
  let v173 : BitVec 32 := Scalar.maxsi c0_i32_141 v172
  let v174 : BitVec 32 := Scalar.minsi c3_i32_142 v173
  let c1024_i32_154 : BitVec 32 := 1024#32
  let v186 : BitVec 32 := Scalar.muli v174 c1024_i32_154
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_155 : BitVec 32 := 256#32
  let v187 : BitVec 32 := Scalar.muli v10 c256_i32_155
  let v188 : BitVec 32 := Scalar.addi v186 v187
  let c0_i32_834 : BitVec 32 := 0#32
  ![v188.toNat, 0]
def k0_dev12 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v191 : BitVec 1 := Scalar.cmpi .sge v8 c1_i32_161
  let v220 : BitVec 32 := Scalar.extui v191
  let c0_i32_198 : BitVec 32 := 0#32
  let v221 : BitVec 1 := Scalar.cmpi .ne v220 c0_i32_198
  v221

def k0_off14 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_168 : BitVec 32 := 1024#32
  let v199 : BitVec 32 := Scalar.muli v195 c1024_i32_168
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_169 : BitVec 32 := 256#32
  let v200 : BitVec 32 := Scalar.muli v13 c256_i32_169
  let v201 : BitVec 32 := Scalar.addi v199 v200
  let c0_i32_834 : BitVec 32 := 0#32
  ![v201.toNat, 0]
def k0_off15 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_176 : BitVec 32 := 1024#32
  let v211 : BitVec 32 := Scalar.muli v195 c1024_i32_176
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_177 : BitVec 32 := 256#32
  let v212 : BitVec 32 := Scalar.muli v13 c256_i32_177
  let v213 : BitVec 32 := Scalar.addi v211 v212
  let c0_i32_840 : BitVec 32 := 0#32
  ![v213.toNat, 0]
def k0_dev13 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off16 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_172 : BitVec 32 := 1024#32
  let v205 : BitVec 32 := Scalar.muli v195 c1024_i32_172
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_173 : BitVec 32 := 256#32
  let v206 : BitVec 32 := Scalar.muli v16 c256_i32_173
  let v207 : BitVec 32 := Scalar.addi v205 v206
  let c0_i32_846 : BitVec 32 := 0#32
  ![v207.toNat, 0]
def k0_off17 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_180 : BitVec 32 := 1024#32
  let v217 : BitVec 32 := Scalar.muli v195 c1024_i32_180
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_181 : BitVec 32 := 256#32
  let v218 : BitVec 32 := Scalar.muli v16 c256_i32_181
  let v219 : BitVec 32 := Scalar.addi v217 v218
  let c256_i32_852 : BitVec 32 := 256#32
  ![v219.toNat, 256]
def k0_dev14 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v222 : BitVec 1 := Scalar.cmpi .sle v8 c2_i32_199
  let v251 : BitVec 32 := Scalar.extui v222
  let c0_i32_236 : BitVec 32 := 0#32
  let v252 : BitVec 1 := Scalar.cmpi .ne v251 c0_i32_236
  v252

def k0_off18 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_206 : BitVec 32 := 1024#32
  let v230 : BitVec 32 := Scalar.muli v226 c1024_i32_206
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_207 : BitVec 32 := 256#32
  let v231 : BitVec 32 := Scalar.muli v13 c256_i32_207
  let v232 : BitVec 32 := Scalar.addi v230 v231
  let c0_i32_834 : BitVec 32 := 0#32
  ![v232.toNat, 0]
def k0_off19 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_214 : BitVec 32 := 1024#32
  let v242 : BitVec 32 := Scalar.muli v226 c1024_i32_214
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_215 : BitVec 32 := 256#32
  let v243 : BitVec 32 := Scalar.muli v13 c256_i32_215
  let v244 : BitVec 32 := Scalar.addi v242 v243
  let c0_i32_840 : BitVec 32 := 0#32
  ![v244.toNat, 0]
def k0_dev15 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off20 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_210 : BitVec 32 := 1024#32
  let v236 : BitVec 32 := Scalar.muli v226 c1024_i32_210
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_211 : BitVec 32 := 256#32
  let v237 : BitVec 32 := Scalar.muli v16 c256_i32_211
  let v238 : BitVec 32 := Scalar.addi v236 v237
  let c0_i32_846 : BitVec 32 := 0#32
  ![v238.toNat, 0]
def k0_off21 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_218 : BitVec 32 := 1024#32
  let v248 : BitVec 32 := Scalar.muli v226 c1024_i32_218
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_219 : BitVec 32 := 256#32
  let v249 : BitVec 32 := Scalar.muli v16 c256_i32_219
  let v250 : BitVec 32 := Scalar.addi v248 v249
  let c256_i32_852 : BitVec 32 := 256#32
  ![v250.toNat, 256]
def k0_dev16 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_237 : BitVec 32 := 2#32
  let v253 : BitVec 1 := Scalar.cmpi .sge v8 c2_i32_237
  let v264 : BitVec 32 := Scalar.extui v253
  let c0_i32_248 : BitVec 32 := 0#32
  let v265 : BitVec 1 := Scalar.cmpi .ne v264 c0_i32_248
  v265

def k0_off22 (d0 : Dev nD) : Fin 2 → Nat :=
  let c3_i32_241 : BitVec 32 := 3#32
  let c0_i32_240 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v254 : BitVec 32 := Scalar.subi v8 c1_i32_238
  let c1_i32_239 : BitVec 32 := 1#32
  let v255 : BitVec 32 := Scalar.subi v254 c1_i32_239
  let v256 : BitVec 32 := Scalar.maxsi c0_i32_240 v255
  let v257 : BitVec 32 := Scalar.minsi c3_i32_241 v256
  let c1024_i32_244 : BitVec 32 := 1024#32
  let v261 : BitVec 32 := Scalar.muli v257 c1024_i32_244
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_245 : BitVec 32 := 256#32
  let v262 : BitVec 32 := Scalar.muli v10 c256_i32_245
  let v263 : BitVec 32 := Scalar.addi v261 v262
  let c0_i32_834 : BitVec 32 := 0#32
  ![v263.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_249 : BitVec 32 := 2#32
  let v266 : BitVec 1 := Scalar.cmpi .sge v8 c2_i32_249
  let c2_i32_250 : BitVec 32 := 2#32
  let v267 : BitVec 1 := Scalar.cmpi .sle v8 c2_i32_250
  let v268 : BitVec 1 := Scalar.andi v266 v267
  let v281 : BitVec 32 := Scalar.extui v268
  let c0_i32_263 : BitVec 32 := 0#32
  let v282 : BitVec 1 := Scalar.cmpi .ne v281 c0_i32_263
  v282

def k0_off23 (d0 : Dev nD) : Fin 2 → Nat :=
  let c3_i32_253 : BitVec 32 := 3#32
  let c0_i32_252 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_251 : BitVec 32 := 2#32
  let v269 : BitVec 32 := Scalar.subi v8 c2_i32_251
  let v270 : BitVec 32 := Scalar.maxsi c0_i32_252 v269
  let v271 : BitVec 32 := Scalar.minsi c3_i32_253 v270
  let c1024_i32_259 : BitVec 32 := 1024#32
  let v278 : BitVec 32 := Scalar.muli v271 c1024_i32_259
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_260 : BitVec 32 := 256#32
  let v279 : BitVec 32 := Scalar.muli v10 c256_i32_260
  let v280 : BitVec 32 := Scalar.addi v278 v279
  let c0_i32_834 : BitVec 32 := 0#32
  ![v280.toNat, 0]
def k0_dev17 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_256 : BitVec 32 := 3#32
  let c0_i32_255 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v272 : BitVec 32 := Scalar.addi v8 c1_i32_254
  let v273 : BitVec 32 := Scalar.maxsi c0_i32_255 v272
  let v274 : BitVec 32 := Scalar.minsi c3_i32_256 v273
  let c1_i32_833 : BitVec 32 := 1#32
  let v726 : BitVec 32 := Scalar.muli v274 c1_i32_833
  let v727 : BitVec 32 := Scalar.addi v725 v726
  v727.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v283 : BitVec 1 := Scalar.cmpi .sle v8 c1_i32_264
  let v294 : BitVec 32 := Scalar.extui v283
  let c0_i32_275 : BitVec 32 := 0#32
  let v295 : BitVec 1 := Scalar.cmpi .ne v294 c0_i32_275
  v295

def k0_off24 (d0 : Dev nD) : Fin 2 → Nat :=
  let c3_i32_268 : BitVec 32 := 3#32
  let c0_i32_267 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v284 : BitVec 32 := Scalar.addi v8 c1_i32_265
  let c1_i32_266 : BitVec 32 := 1#32
  let v285 : BitVec 32 := Scalar.addi v284 c1_i32_266
  let v286 : BitVec 32 := Scalar.maxsi c0_i32_267 v285
  let v287 : BitVec 32 := Scalar.minsi c3_i32_268 v286
  let c1024_i32_271 : BitVec 32 := 1024#32
  let v291 : BitVec 32 := Scalar.muli v287 c1024_i32_271
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_272 : BitVec 32 := 256#32
  let v292 : BitVec 32 := Scalar.muli v10 c256_i32_272
  let v293 : BitVec 32 := Scalar.addi v291 v292
  let c0_i32_834 : BitVec 32 := 0#32
  ![v293.toNat, 0]
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v296 : BitVec 1 := Scalar.cmpi .sge v8 c1_i32_276
  let c2_i32_277 : BitVec 32 := 2#32
  let v297 : BitVec 32 := Scalar.addi v8 c2_i32_277
  let c3_i32_278 : BitVec 32 := 3#32
  let v298 : BitVec 1 := Scalar.cmpi .sle v297 c3_i32_278
  let v299 : BitVec 1 := Scalar.andi v296 v298
  let v312 : BitVec 32 := Scalar.extui v299
  let c0_i32_291 : BitVec 32 := 0#32
  let v313 : BitVec 1 := Scalar.cmpi .ne v312 c0_i32_291
  v313

def k0_off25 (d0 : Dev nD) : Fin 2 → Nat :=
  let c3_i32_281 : BitVec 32 := 3#32
  let c0_i32_280 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_279 : BitVec 32 := 2#32
  let v300 : BitVec 32 := Scalar.addi v8 c2_i32_279
  let v301 : BitVec 32 := Scalar.maxsi c0_i32_280 v300
  let v302 : BitVec 32 := Scalar.minsi c3_i32_281 v301
  let c1024_i32_287 : BitVec 32 := 1024#32
  let v309 : BitVec 32 := Scalar.muli v302 c1024_i32_287
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_288 : BitVec 32 := 256#32
  let v310 : BitVec 32 := Scalar.muli v10 c256_i32_288
  let v311 : BitVec 32 := Scalar.addi v309 v310
  let c0_i32_834 : BitVec 32 := 0#32
  ![v311.toNat, 0]
def k0_dev18 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let c3_i32_284 : BitVec 32 := 3#32
  let c0_i32_283 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v303 : BitVec 32 := Scalar.subi v8 c1_i32_282
  let v304 : BitVec 32 := Scalar.maxsi c0_i32_283 v303
  let v305 : BitVec 32 := Scalar.minsi c3_i32_284 v304
  let c1_i32_833 : BitVec 32 := 1#32
  let v726 : BitVec 32 := Scalar.muli v305 c1_i32_833
  let v727 : BitVec 32 := Scalar.addi v725 v726
  v727.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_292 : BitVec 32 := 2#32
  let v314 : BitVec 1 := Scalar.cmpi .sge v8 c2_i32_292
  let v325 : BitVec 32 := Scalar.extui v314
  let c0_i32_305 : BitVec 32 := 0#32
  let v326 : BitVec 1 := Scalar.cmpi .ne v325 c0_i32_305
  v326

def k0_off26 (d0 : Dev nD) : Fin 2 → Nat :=
  let c3_i32_296 : BitVec 32 := 3#32
  let c0_i32_295 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v315 : BitVec 32 := Scalar.subi v8 c1_i32_293
  let c1_i32_294 : BitVec 32 := 1#32
  let v316 : BitVec 32 := Scalar.subi v315 c1_i32_294
  let v317 : BitVec 32 := Scalar.maxsi c0_i32_295 v316
  let v318 : BitVec 32 := Scalar.minsi c3_i32_296 v317
  let c1024_i32_299 : BitVec 32 := 1024#32
  let v322 : BitVec 32 := Scalar.muli v318 c1024_i32_299
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_300 : BitVec 32 := 256#32
  let v323 : BitVec 32 := Scalar.muli v10 c256_i32_300
  let v324 : BitVec 32 := Scalar.addi v322 v323
  let c0_i32_834 : BitVec 32 := 0#32
  ![v324.toNat, 0]
def k0_dev19 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_292 : BitVec 32 := 2#32
  let v314 : BitVec 1 := Scalar.cmpi .sge v8 c2_i32_292
  let v333 : BitVec 32 := Scalar.extui v314
  let c0_i32_314 : BitVec 32 := 0#32
  let v334 : BitVec 1 := Scalar.cmpi .ne v333 c0_i32_314
  v334

def k0_off27 (d0 : Dev nD) : Fin 2 → Nat :=
  let c3_i32_296 : BitVec 32 := 3#32
  let c0_i32_295 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v315 : BitVec 32 := Scalar.subi v8 c1_i32_293
  let c1_i32_294 : BitVec 32 := 1#32
  let v316 : BitVec 32 := Scalar.subi v315 c1_i32_294
  let v317 : BitVec 32 := Scalar.maxsi c0_i32_295 v316
  let v318 : BitVec 32 := Scalar.minsi c3_i32_296 v317
  let c1024_i32_308 : BitVec 32 := 1024#32
  let v330 : BitVec 32 := Scalar.muli v318 c1024_i32_308
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_309 : BitVec 32 := 256#32
  let v331 : BitVec 32 := Scalar.muli v10 c256_i32_309
  let v332 : BitVec 32 := Scalar.addi v330 v331
  let c0_i32_834 : BitVec 32 := 0#32
  ![v332.toNat, 0]
def k0_dev20 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v335 : BitVec 1 := Scalar.cmpi .sle v8 c1_i32_315
  let v346 : BitVec 32 := Scalar.extui v335
  let c0_i32_328 : BitVec 32 := 0#32
  let v347 : BitVec 1 := Scalar.cmpi .ne v346 c0_i32_328
  v347

def k0_off28 (d0 : Dev nD) : Fin 2 → Nat :=
  let c3_i32_319 : BitVec 32 := 3#32
  let c0_i32_318 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v336 : BitVec 32 := Scalar.addi v8 c1_i32_316
  let c1_i32_317 : BitVec 32 := 1#32
  let v337 : BitVec 32 := Scalar.addi v336 c1_i32_317
  let v338 : BitVec 32 := Scalar.maxsi c0_i32_318 v337
  let v339 : BitVec 32 := Scalar.minsi c3_i32_319 v338
  let c1024_i32_322 : BitVec 32 := 1024#32
  let v343 : BitVec 32 := Scalar.muli v339 c1024_i32_322
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_323 : BitVec 32 := 256#32
  let v344 : BitVec 32 := Scalar.muli v10 c256_i32_323
  let v345 : BitVec 32 := Scalar.addi v343 v344
  let c0_i32_834 : BitVec 32 := 0#32
  ![v345.toNat, 0]
def k0_dev21 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v335 : BitVec 1 := Scalar.cmpi .sle v8 c1_i32_315
  let v354 : BitVec 32 := Scalar.extui v335
  let c0_i32_337 : BitVec 32 := 0#32
  let v355 : BitVec 1 := Scalar.cmpi .ne v354 c0_i32_337
  v355

def k0_off29 (d0 : Dev nD) : Fin 2 → Nat :=
  let c3_i32_319 : BitVec 32 := 3#32
  let c0_i32_318 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v336 : BitVec 32 := Scalar.addi v8 c1_i32_316
  let c1_i32_317 : BitVec 32 := 1#32
  let v337 : BitVec 32 := Scalar.addi v336 c1_i32_317
  let v338 : BitVec 32 := Scalar.maxsi c0_i32_318 v337
  let v339 : BitVec 32 := Scalar.minsi c3_i32_319 v338
  let c1024_i32_331 : BitVec 32 := 1024#32
  let v351 : BitVec 32 := Scalar.muli v339 c1024_i32_331
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_332 : BitVec 32 := 256#32
  let v352 : BitVec 32 := Scalar.muli v10 c256_i32_332
  let v353 : BitVec 32 := Scalar.addi v351 v352
  let c0_i32_834 : BitVec 32 := 0#32
  ![v353.toNat, 0]
def k0_dev22 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_338 : BitVec 32 := 2#32
  let v356 : BitVec 1 := Scalar.cmpi .sge v8 c2_i32_338
  let v385 : BitVec 32 := Scalar.extui v356
  let c0_i32_375 : BitVec 32 := 0#32
  let v386 : BitVec 1 := Scalar.cmpi .ne v385 c0_i32_375
  v386

def k0_off30 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_345 : BitVec 32 := 1024#32
  let v364 : BitVec 32 := Scalar.muli v360 c1024_i32_345
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_346 : BitVec 32 := 256#32
  let v365 : BitVec 32 := Scalar.muli v13 c256_i32_346
  let v366 : BitVec 32 := Scalar.addi v364 v365
  let c0_i32_834 : BitVec 32 := 0#32
  ![v366.toNat, 0]
def k0_off31 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_353 : BitVec 32 := 1024#32
  let v376 : BitVec 32 := Scalar.muli v360 c1024_i32_353
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_354 : BitVec 32 := 256#32
  let v377 : BitVec 32 := Scalar.muli v13 c256_i32_354
  let v378 : BitVec 32 := Scalar.addi v376 v377
  let c0_i32_840 : BitVec 32 := 0#32
  ![v378.toNat, 0]
def k0_dev23 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off32 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_349 : BitVec 32 := 1024#32
  let v370 : BitVec 32 := Scalar.muli v360 c1024_i32_349
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_350 : BitVec 32 := 256#32
  let v371 : BitVec 32 := Scalar.muli v16 c256_i32_350
  let v372 : BitVec 32 := Scalar.addi v370 v371
  let c0_i32_846 : BitVec 32 := 0#32
  ![v372.toNat, 0]
def k0_off33 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_357 : BitVec 32 := 1024#32
  let v382 : BitVec 32 := Scalar.muli v360 c1024_i32_357
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_358 : BitVec 32 := 256#32
  let v383 : BitVec 32 := Scalar.muli v16 c256_i32_358
  let v384 : BitVec 32 := Scalar.addi v382 v383
  let c256_i32_852 : BitVec 32 := 256#32
  ![v384.toNat, 256]
def k0_dev24 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v387 : BitVec 1 := Scalar.cmpi .sle v8 c1_i32_376
  let v416 : BitVec 32 := Scalar.extui v387
  let c0_i32_413 : BitVec 32 := 0#32
  let v417 : BitVec 1 := Scalar.cmpi .ne v416 c0_i32_413
  v417

def k0_off34 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_383 : BitVec 32 := 1024#32
  let v395 : BitVec 32 := Scalar.muli v391 c1024_i32_383
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_384 : BitVec 32 := 256#32
  let v396 : BitVec 32 := Scalar.muli v13 c256_i32_384
  let v397 : BitVec 32 := Scalar.addi v395 v396
  let c0_i32_834 : BitVec 32 := 0#32
  ![v397.toNat, 0]
def k0_off35 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_391 : BitVec 32 := 1024#32
  let v407 : BitVec 32 := Scalar.muli v391 c1024_i32_391
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_392 : BitVec 32 := 256#32
  let v408 : BitVec 32 := Scalar.muli v13 c256_i32_392
  let v409 : BitVec 32 := Scalar.addi v407 v408
  let c0_i32_840 : BitVec 32 := 0#32
  ![v409.toNat, 0]
def k0_dev25 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off36 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_387 : BitVec 32 := 1024#32
  let v401 : BitVec 32 := Scalar.muli v391 c1024_i32_387
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_388 : BitVec 32 := 256#32
  let v402 : BitVec 32 := Scalar.muli v16 c256_i32_388
  let v403 : BitVec 32 := Scalar.addi v401 v402
  let c0_i32_846 : BitVec 32 := 0#32
  ![v403.toNat, 0]
def k0_off37 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_395 : BitVec 32 := 1024#32
  let v413 : BitVec 32 := Scalar.muli v391 c1024_i32_395
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_396 : BitVec 32 := 256#32
  let v414 : BitVec 32 := Scalar.muli v16 c256_i32_396
  let v415 : BitVec 32 := Scalar.addi v413 v414
  let c256_i32_852 : BitVec 32 := 256#32
  ![v415.toNat, 256]
def k0_dev26 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_414 : BitVec 32 := 3#32
  let v418 : BitVec 1 := Scalar.cmpi .sge v8 c3_i32_414
  let v429 : BitVec 32 := Scalar.extui v418
  let c0_i32_425 : BitVec 32 := 0#32
  let v430 : BitVec 1 := Scalar.cmpi .ne v429 c0_i32_425
  v430

def k0_off38 (d0 : Dev nD) : Fin 2 → Nat :=
  let c3_i32_418 : BitVec 32 := 3#32
  let c0_i32_417 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v419 : BitVec 32 := Scalar.subi v8 c1_i32_415
  let c2_i32_416 : BitVec 32 := 2#32
  let v420 : BitVec 32 := Scalar.subi v419 c2_i32_416
  let v421 : BitVec 32 := Scalar.maxsi c0_i32_417 v420
  let v422 : BitVec 32 := Scalar.minsi c3_i32_418 v421
  let c1024_i32_421 : BitVec 32 := 1024#32
  let v426 : BitVec 32 := Scalar.muli v422 c1024_i32_421
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_422 : BitVec 32 := 256#32
  let v427 : BitVec 32 := Scalar.muli v10 c256_i32_422
  let v428 : BitVec 32 := Scalar.addi v426 v427
  let c0_i32_834 : BitVec 32 := 0#32
  ![v428.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_426 : BitVec 32 := 0#32
  let v431 : BitVec 1 := Scalar.cmpi .sle v8 c0_i32_426
  let v442 : BitVec 32 := Scalar.extui v431
  let c0_i32_437 : BitVec 32 := 0#32
  let v443 : BitVec 1 := Scalar.cmpi .ne v442 c0_i32_437
  v443

def k0_off39 (d0 : Dev nD) : Fin 2 → Nat :=
  let c3_i32_430 : BitVec 32 := 3#32
  let c0_i32_429 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v432 : BitVec 32 := Scalar.addi v8 c1_i32_427
  let c2_i32_428 : BitVec 32 := 2#32
  let v433 : BitVec 32 := Scalar.addi v432 c2_i32_428
  let v434 : BitVec 32 := Scalar.maxsi c0_i32_429 v433
  let v435 : BitVec 32 := Scalar.minsi c3_i32_430 v434
  let c1024_i32_433 : BitVec 32 := 1024#32
  let v439 : BitVec 32 := Scalar.muli v435 c1024_i32_433
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_434 : BitVec 32 := 256#32
  let v440 : BitVec 32 := Scalar.muli v10 c256_i32_434
  let v441 : BitVec 32 := Scalar.addi v439 v440
  let c0_i32_834 : BitVec 32 := 0#32
  ![v441.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v444 : BitVec 1 := Scalar.cmpi .sge v8 c3_i32_438
  let v455 : BitVec 32 := Scalar.extui v444
  let c0_i32_451 : BitVec 32 := 0#32
  let v456 : BitVec 1 := Scalar.cmpi .ne v455 c0_i32_451
  v456

def k0_off40 (d0 : Dev nD) : Fin 2 → Nat :=
  let c3_i32_442 : BitVec 32 := 3#32
  let c0_i32_441 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v445 : BitVec 32 := Scalar.subi v8 c1_i32_439
  let c2_i32_440 : BitVec 32 := 2#32
  let v446 : BitVec 32 := Scalar.subi v445 c2_i32_440
  let v447 : BitVec 32 := Scalar.maxsi c0_i32_441 v446
  let v448 : BitVec 32 := Scalar.minsi c3_i32_442 v447
  let c1024_i32_445 : BitVec 32 := 1024#32
  let v452 : BitVec 32 := Scalar.muli v448 c1024_i32_445
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_446 : BitVec 32 := 256#32
  let v453 : BitVec 32 := Scalar.muli v10 c256_i32_446
  let v454 : BitVec 32 := Scalar.addi v452 v453
  let c0_i32_834 : BitVec 32 := 0#32
  ![v454.toNat, 0]
def k0_dev27 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v444 : BitVec 1 := Scalar.cmpi .sge v8 c3_i32_438
  let v463 : BitVec 32 := Scalar.extui v444
  let c0_i32_460 : BitVec 32 := 0#32
  let v464 : BitVec 1 := Scalar.cmpi .ne v463 c0_i32_460
  v464

def k0_off41 (d0 : Dev nD) : Fin 2 → Nat :=
  let c3_i32_442 : BitVec 32 := 3#32
  let c0_i32_441 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v445 : BitVec 32 := Scalar.subi v8 c1_i32_439
  let c2_i32_440 : BitVec 32 := 2#32
  let v446 : BitVec 32 := Scalar.subi v445 c2_i32_440
  let v447 : BitVec 32 := Scalar.maxsi c0_i32_441 v446
  let v448 : BitVec 32 := Scalar.minsi c3_i32_442 v447
  let c1024_i32_454 : BitVec 32 := 1024#32
  let v460 : BitVec 32 := Scalar.muli v448 c1024_i32_454
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_455 : BitVec 32 := 256#32
  let v461 : BitVec 32 := Scalar.muli v10 c256_i32_455
  let v462 : BitVec 32 := Scalar.addi v460 v461
  let c0_i32_834 : BitVec 32 := 0#32
  ![v462.toNat, 0]
def k0_dev28 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_461 : BitVec 32 := 0#32
  let v465 : BitVec 1 := Scalar.cmpi .sle v8 c0_i32_461
  let v476 : BitVec 32 := Scalar.extui v465
  let c0_i32_474 : BitVec 32 := 0#32
  let v477 : BitVec 1 := Scalar.cmpi .ne v476 c0_i32_474
  v477

def k0_off42 (d0 : Dev nD) : Fin 2 → Nat :=
  let c3_i32_465 : BitVec 32 := 3#32
  let c0_i32_464 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v466 : BitVec 32 := Scalar.addi v8 c1_i32_462
  let c2_i32_463 : BitVec 32 := 2#32
  let v467 : BitVec 32 := Scalar.addi v466 c2_i32_463
  let v468 : BitVec 32 := Scalar.maxsi c0_i32_464 v467
  let v469 : BitVec 32 := Scalar.minsi c3_i32_465 v468
  let c1024_i32_468 : BitVec 32 := 1024#32
  let v473 : BitVec 32 := Scalar.muli v469 c1024_i32_468
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_469 : BitVec 32 := 256#32
  let v474 : BitVec 32 := Scalar.muli v10 c256_i32_469
  let v475 : BitVec 32 := Scalar.addi v473 v474
  let c0_i32_834 : BitVec 32 := 0#32
  ![v475.toNat, 0]
def k0_dev29 (d0 : Dev nD) : Nat :=
  let c0_i32_831 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_830 : BitVec 32 := 8#32
  let v722 : BitVec 32 := Scalar.muli v21 c8_i32_830
  let v723 : BitVec 32 := Scalar.addi c0_i32_831 v722
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v724 : BitVec 32 := Scalar.muli v5 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_461 : BitVec 32 := 0#32
  let v465 : BitVec 1 := Scalar.cmpi .sle v8 c0_i32_461
  let v484 : BitVec 32 := Scalar.extui v465
  let c0_i32_483 : BitVec 32 := 0#32
  let v485 : BitVec 1 := Scalar.cmpi .ne v484 c0_i32_483
  v485

def k0_off43 (d0 : Dev nD) : Fin 2 → Nat :=
  let c3_i32_465 : BitVec 32 := 3#32
  let c0_i32_464 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v466 : BitVec 32 := Scalar.addi v8 c1_i32_462
  let c2_i32_463 : BitVec 32 := 2#32
  let v467 : BitVec 32 := Scalar.addi v466 c2_i32_463
  let v468 : BitVec 32 := Scalar.maxsi c0_i32_464 v467
  let v469 : BitVec 32 := Scalar.minsi c3_i32_465 v468
  let c1024_i32_477 : BitVec 32 := 1024#32
  let v481 : BitVec 32 := Scalar.muli v469 c1024_i32_477
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_478 : BitVec 32 := 256#32
  let v482 : BitVec 32 := Scalar.muli v10 c256_i32_478
  let v483 : BitVec 32 := Scalar.addi v481 v482
  let c0_i32_834 : BitVec 32 := 0#32
  ![v483.toNat, 0]
def k0_dev30 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v722 : BitVec 32 := Scalar.muli v2 c8_i32_830
  let v723 : BitVec 32 := Scalar.addi c0_i32_831 v722
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_832 : BitVec 32 := 4#32
  let v724 : BitVec 32 := Scalar.muli v22 c4_i32_832
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_833 : BitVec 32 := 1#32
  let v726 : BitVec 32 := Scalar.muli v8 c1_i32_833
  let v727 : BitVec 32 := Scalar.addi v725 v726
  v727.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_484 : BitVec 32 := 3#32
  let v486 : BitVec 1 := Scalar.cmpi .sge v8 c3_i32_484
  let v515 : BitVec 32 := Scalar.extui v486
  let c0_i32_521 : BitVec 32 := 0#32
  let v516 : BitVec 1 := Scalar.cmpi .ne v515 c0_i32_521
  v516

def k0_off44 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_491 : BitVec 32 := 1024#32
  let v494 : BitVec 32 := Scalar.muli v490 c1024_i32_491
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_492 : BitVec 32 := 256#32
  let v495 : BitVec 32 := Scalar.muli v13 c256_i32_492
  let v496 : BitVec 32 := Scalar.addi v494 v495
  let c0_i32_834 : BitVec 32 := 0#32
  ![v496.toNat, 0]
def k0_off45 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_499 : BitVec 32 := 1024#32
  let v506 : BitVec 32 := Scalar.muli v490 c1024_i32_499
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_500 : BitVec 32 := 256#32
  let v507 : BitVec 32 := Scalar.muli v13 c256_i32_500
  let v508 : BitVec 32 := Scalar.addi v506 v507
  let c0_i32_840 : BitVec 32 := 0#32
  ![v508.toNat, 0]
def k0_dev31 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off46 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_495 : BitVec 32 := 1024#32
  let v500 : BitVec 32 := Scalar.muli v490 c1024_i32_495
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_496 : BitVec 32 := 256#32
  let v501 : BitVec 32 := Scalar.muli v16 c256_i32_496
  let v502 : BitVec 32 := Scalar.addi v500 v501
  let c0_i32_846 : BitVec 32 := 0#32
  ![v502.toNat, 0]
def k0_off47 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_503 : BitVec 32 := 1024#32
  let v512 : BitVec 32 := Scalar.muli v490 c1024_i32_503
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_504 : BitVec 32 := 256#32
  let v513 : BitVec 32 := Scalar.muli v16 c256_i32_504
  let v514 : BitVec 32 := Scalar.addi v512 v513
  let c256_i32_852 : BitVec 32 := 256#32
  ![v514.toNat, 256]
def k0_dev32 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_522 : BitVec 32 := 0#32
  let v517 : BitVec 1 := Scalar.cmpi .sle v8 c0_i32_522
  let v546 : BitVec 32 := Scalar.extui v517
  let c0_i32_559 : BitVec 32 := 0#32
  let v547 : BitVec 1 := Scalar.cmpi .ne v546 c0_i32_559
  v547

def k0_off48 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_529 : BitVec 32 := 1024#32
  let v525 : BitVec 32 := Scalar.muli v521 c1024_i32_529
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_530 : BitVec 32 := 256#32
  let v526 : BitVec 32 := Scalar.muli v13 c256_i32_530
  let v527 : BitVec 32 := Scalar.addi v525 v526
  let c0_i32_834 : BitVec 32 := 0#32
  ![v527.toNat, 0]
def k0_off49 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_537 : BitVec 32 := 1024#32
  let v537 : BitVec 32 := Scalar.muli v521 c1024_i32_537
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_538 : BitVec 32 := 256#32
  let v538 : BitVec 32 := Scalar.muli v13 c256_i32_538
  let v539 : BitVec 32 := Scalar.addi v537 v538
  let c0_i32_840 : BitVec 32 := 0#32
  ![v539.toNat, 0]
def k0_dev33 (d0 : Dev nD) : Nat :=
  let c0_i32_837 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_836 : BitVec 32 := 8#32
  let v732 : BitVec 32 := Scalar.muli v2 c8_i32_836
  let v733 : BitVec 32 := Scalar.addi c0_i32_837 v732
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_11 v5
  let c4_i32_838 : BitVec 32 := 4#32
  let v734 : BitVec 32 := Scalar.muli v22 c4_i32_838
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_839 : BitVec 32 := 1#32
  let v736 : BitVec 32 := Scalar.muli v8 c1_i32_839
  let v737 : BitVec 32 := Scalar.addi v735 v736
  v737.toNat
def k0_off50 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_533 : BitVec 32 := 1024#32
  let v531 : BitVec 32 := Scalar.muli v521 c1024_i32_533
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_534 : BitVec 32 := 256#32
  let v532 : BitVec 32 := Scalar.muli v16 c256_i32_534
  let v533 : BitVec 32 := Scalar.addi v531 v532
  let c0_i32_846 : BitVec 32 := 0#32
  ![v533.toNat, 0]
def k0_off51 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_541 : BitVec 32 := 1024#32
  let v543 : BitVec 32 := Scalar.muli v521 c1024_i32_541
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_542 : BitVec 32 := 256#32
  let v544 : BitVec 32 := Scalar.muli v16 c256_i32_542
  let v545 : BitVec 32 := Scalar.addi v543 v544
  let c256_i32_852 : BitVec 32 := 256#32
  ![v545.toNat, 256]
def k0_dev34 (d0 : Dev nD) : Nat :=
  let c0_i32_849 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v21 : BitVec 32 := Scalar.subi c1_i32_10 v2
  let c8_i32_848 : BitVec 32 := 8#32
  let v754 : BitVec 32 := Scalar.muli v21 c8_i32_848
  let v755 : BitVec 32 := Scalar.addi c0_i32_849 v754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_850 : BitVec 32 := 4#32
  let v756 : BitVec 32 := Scalar.muli v5 c4_i32_850
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v758 : BitVec 32 := Scalar.muli v8 c1_i32_851
  let v759 : BitVec 32 := Scalar.addi v757 v758
  v759.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_560 : BitVec 32 := 1#32
  let v548 : BitVec 1 := Scalar.cmpi .sge v8 c1_i32_560
  let v565 : BitVec 32 := Scalar.extui v548
  let c0_i32_581 : BitVec 32 := 0#32
  let v566 : BitVec 1 := Scalar.cmpi .ne v565 c0_i32_581
  v566

def k0_off52 (d0 : Dev nD) : Fin 2 → Nat :=
  let c3_i32_564 : BitVec 32 := 3#32
  let c0_i32_563 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v549 : BitVec 32 := Scalar.subi v8 c1_i32_561
  let c0_i32_562 : BitVec 32 := 0#32
  let v550 : BitVec 32 := Scalar.subi v549 c0_i32_562
  let v551 : BitVec 32 := Scalar.maxsi c0_i32_563 v550
  let v552 : BitVec 32 := Scalar.minsi c3_i32_564 v551
  let c1024_i32_567 : BitVec 32 := 1024#32
  let v556 : BitVec 32 := Scalar.muli v552 c1024_i32_567
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_568 : BitVec 32 := 256#32
  let v557 : BitVec 32 := Scalar.muli v20 c256_i32_568
  let v558 : BitVec 32 := Scalar.addi v556 v557
  let c0_i32_834 : BitVec 32 := 0#32
  ![v558.toNat, 0]
def k0_off53 (d0 : Dev nD) : Fin 2 → Nat :=
  let c3_i32_564 : BitVec 32 := 3#32
  let c0_i32_563 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v549 : BitVec 32 := Scalar.subi v8 c1_i32_561
  let c0_i32_562 : BitVec 32 := 0#32
  let v550 : BitVec 32 := Scalar.subi v549 c0_i32_562
  let v551 : BitVec 32 := Scalar.maxsi c0_i32_563 v550
  let v552 : BitVec 32 := Scalar.minsi c3_i32_564 v551
  let c1024_i32_571 : BitVec 32 := 1024#32
  let v562 : BitVec 32 := Scalar.muli v552 c1024_i32_571
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_572 : BitVec 32 := 256#32
  let v563 : BitVec 32 := Scalar.muli v20 c256_i32_572
  let v564 : BitVec 32 := Scalar.addi v562 v563
  let c256_i32_840 : BitVec 32 := 256#32
  ![v564.toNat, 256]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_582 : BitVec 32 := 2#32
  let v567 : BitVec 1 := Scalar.cmpi .sle v8 c2_i32_582
  let v584 : BitVec 32 := Scalar.extui v567
  let c0_i32_603 : BitVec 32 := 0#32
  let v585 : BitVec 1 := Scalar.cmpi .ne v584 c0_i32_603
  v585

def k0_off54 (d0 : Dev nD) : Fin 2 → Nat :=
  let c3_i32_586 : BitVec 32 := 3#32
  let c0_i32_585 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v568 : BitVec 32 := Scalar.addi v8 c1_i32_583
  let c0_i32_584 : BitVec 32 := 0#32
  let v569 : BitVec 32 := Scalar.addi v568 c0_i32_584
  let v570 : BitVec 32 := Scalar.maxsi c0_i32_585 v569
  let v571 : BitVec 32 := Scalar.minsi c3_i32_586 v570
  let c1024_i32_589 : BitVec 32 := 1024#32
  let v575 : BitVec 32 := Scalar.muli v571 c1024_i32_589
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_590 : BitVec 32 := 256#32
  let v576 : BitVec 32 := Scalar.muli v20 c256_i32_590
  let v577 : BitVec 32 := Scalar.addi v575 v576
  let c0_i32_834 : BitVec 32 := 0#32
  ![v577.toNat, 0]
def k0_off55 (d0 : Dev nD) : Fin 2 → Nat :=
  let c3_i32_586 : BitVec 32 := 3#32
  let c0_i32_585 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v568 : BitVec 32 := Scalar.addi v8 c1_i32_583
  let c0_i32_584 : BitVec 32 := 0#32
  let v569 : BitVec 32 := Scalar.addi v568 c0_i32_584
  let v570 : BitVec 32 := Scalar.maxsi c0_i32_585 v569
  let v571 : BitVec 32 := Scalar.minsi c3_i32_586 v570
  let c1024_i32_593 : BitVec 32 := 1024#32
  let v581 : BitVec 32 := Scalar.muli v571 c1024_i32_593
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_594 : BitVec 32 := 256#32
  let v582 : BitVec 32 := Scalar.muli v20 c256_i32_594
  let v583 : BitVec 32 := Scalar.addi v581 v582
  let c256_i32_840 : BitVec 32 := 256#32
  ![v583.toNat, 256]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_604 : BitVec 32 := 2#32
  let v586 : BitVec 1 := Scalar.cmpi .sge v8 c2_i32_604
  let v603 : BitVec 32 := Scalar.extui v586
  let c0_i32_625 : BitVec 32 := 0#32
  let v604 : BitVec 1 := Scalar.cmpi .ne v603 c0_i32_625
  v604

def k0_off56 (d0 : Dev nD) : Fin 2 → Nat :=
  let c3_i32_608 : BitVec 32 := 3#32
  let c0_i32_607 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_605 : BitVec 32 := 1#32
  let v587 : BitVec 32 := Scalar.subi v8 c1_i32_605
  let c1_i32_606 : BitVec 32 := 1#32
  let v588 : BitVec 32 := Scalar.subi v587 c1_i32_606
  let v589 : BitVec 32 := Scalar.maxsi c0_i32_607 v588
  let v590 : BitVec 32 := Scalar.minsi c3_i32_608 v589
  let c1024_i32_611 : BitVec 32 := 1024#32
  let v594 : BitVec 32 := Scalar.muli v590 c1024_i32_611
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_612 : BitVec 32 := 256#32
  let v595 : BitVec 32 := Scalar.muli v20 c256_i32_612
  let v596 : BitVec 32 := Scalar.addi v594 v595
  let c0_i32_834 : BitVec 32 := 0#32
  ![v596.toNat, 0]
def k0_off57 (d0 : Dev nD) : Fin 2 → Nat :=
  let c3_i32_608 : BitVec 32 := 3#32
  let c0_i32_607 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_605 : BitVec 32 := 1#32
  let v587 : BitVec 32 := Scalar.subi v8 c1_i32_605
  let c1_i32_606 : BitVec 32 := 1#32
  let v588 : BitVec 32 := Scalar.subi v587 c1_i32_606
  let v589 : BitVec 32 := Scalar.maxsi c0_i32_607 v588
  let v590 : BitVec 32 := Scalar.minsi c3_i32_608 v589
  let c1024_i32_615 : BitVec 32 := 1024#32
  let v600 : BitVec 32 := Scalar.muli v590 c1024_i32_615
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_616 : BitVec 32 := 256#32
  let v601 : BitVec 32 := Scalar.muli v20 c256_i32_616
  let v602 : BitVec 32 := Scalar.addi v600 v601
  let c256_i32_840 : BitVec 32 := 256#32
  ![v602.toNat, 256]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v605 : BitVec 1 := Scalar.cmpi .sle v8 c1_i32_626
  let v622 : BitVec 32 := Scalar.extui v605
  let c0_i32_647 : BitVec 32 := 0#32
  let v623 : BitVec 1 := Scalar.cmpi .ne v622 c0_i32_647
  v623

def k0_off58 (d0 : Dev nD) : Fin 2 → Nat :=
  let c3_i32_630 : BitVec 32 := 3#32
  let c0_i32_629 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v606 : BitVec 32 := Scalar.addi v8 c1_i32_627
  let c1_i32_628 : BitVec 32 := 1#32
  let v607 : BitVec 32 := Scalar.addi v606 c1_i32_628
  let v608 : BitVec 32 := Scalar.maxsi c0_i32_629 v607
  let v609 : BitVec 32 := Scalar.minsi c3_i32_630 v608
  let c1024_i32_633 : BitVec 32 := 1024#32
  let v613 : BitVec 32 := Scalar.muli v609 c1024_i32_633
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_634 : BitVec 32 := 256#32
  let v614 : BitVec 32 := Scalar.muli v20 c256_i32_634
  let v615 : BitVec 32 := Scalar.addi v613 v614
  let c0_i32_834 : BitVec 32 := 0#32
  ![v615.toNat, 0]
def k0_off59 (d0 : Dev nD) : Fin 2 → Nat :=
  let c3_i32_630 : BitVec 32 := 3#32
  let c0_i32_629 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v606 : BitVec 32 := Scalar.addi v8 c1_i32_627
  let c1_i32_628 : BitVec 32 := 1#32
  let v607 : BitVec 32 := Scalar.addi v606 c1_i32_628
  let v608 : BitVec 32 := Scalar.maxsi c0_i32_629 v607
  let v609 : BitVec 32 := Scalar.minsi c3_i32_630 v608
  let c1024_i32_637 : BitVec 32 := 1024#32
  let v619 : BitVec 32 := Scalar.muli v609 c1024_i32_637
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_638 : BitVec 32 := 256#32
  let v620 : BitVec 32 := Scalar.muli v20 c256_i32_638
  let v621 : BitVec 32 := Scalar.addi v619 v620
  let c256_i32_840 : BitVec 32 := 256#32
  ![v621.toNat, 256]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_648 : BitVec 32 := 3#32
  let v624 : BitVec 1 := Scalar.cmpi .sge v8 c3_i32_648
  let v641 : BitVec 32 := Scalar.extui v624
  let c0_i32_669 : BitVec 32 := 0#32
  let v642 : BitVec 1 := Scalar.cmpi .ne v641 c0_i32_669
  v642

def k0_off60 (d0 : Dev nD) : Fin 2 → Nat :=
  let c3_i32_652 : BitVec 32 := 3#32
  let c0_i32_651 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_649 : BitVec 32 := 1#32
  let v625 : BitVec 32 := Scalar.subi v8 c1_i32_649
  let c2_i32_650 : BitVec 32 := 2#32
  let v626 : BitVec 32 := Scalar.subi v625 c2_i32_650
  let v627 : BitVec 32 := Scalar.maxsi c0_i32_651 v626
  let v628 : BitVec 32 := Scalar.minsi c3_i32_652 v627
  let c1024_i32_655 : BitVec 32 := 1024#32
  let v632 : BitVec 32 := Scalar.muli v628 c1024_i32_655
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_656 : BitVec 32 := 256#32
  let v633 : BitVec 32 := Scalar.muli v20 c256_i32_656
  let v634 : BitVec 32 := Scalar.addi v632 v633
  let c0_i32_834 : BitVec 32 := 0#32
  ![v634.toNat, 0]
def k0_off61 (d0 : Dev nD) : Fin 2 → Nat :=
  let c3_i32_652 : BitVec 32 := 3#32
  let c0_i32_651 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_649 : BitVec 32 := 1#32
  let v625 : BitVec 32 := Scalar.subi v8 c1_i32_649
  let c2_i32_650 : BitVec 32 := 2#32
  let v626 : BitVec 32 := Scalar.subi v625 c2_i32_650
  let v627 : BitVec 32 := Scalar.maxsi c0_i32_651 v626
  let v628 : BitVec 32 := Scalar.minsi c3_i32_652 v627
  let c1024_i32_659 : BitVec 32 := 1024#32
  let v638 : BitVec 32 := Scalar.muli v628 c1024_i32_659
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_660 : BitVec 32 := 256#32
  let v639 : BitVec 32 := Scalar.muli v20 c256_i32_660
  let v640 : BitVec 32 := Scalar.addi v638 v639
  let c256_i32_840 : BitVec 32 := 256#32
  ![v640.toNat, 256]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_670 : BitVec 32 := 0#32
  let v643 : BitVec 1 := Scalar.cmpi .sle v8 c0_i32_670
  let v660 : BitVec 32 := Scalar.extui v643
  let c0_i32_691 : BitVec 32 := 0#32
  let v661 : BitVec 1 := Scalar.cmpi .ne v660 c0_i32_691
  v661

def k0_off62 (d0 : Dev nD) : Fin 2 → Nat :=
  let c3_i32_674 : BitVec 32 := 3#32
  let c0_i32_673 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_671 : BitVec 32 := 1#32
  let v644 : BitVec 32 := Scalar.addi v8 c1_i32_671
  let c2_i32_672 : BitVec 32 := 2#32
  let v645 : BitVec 32 := Scalar.addi v644 c2_i32_672
  let v646 : BitVec 32 := Scalar.maxsi c0_i32_673 v645
  let v647 : BitVec 32 := Scalar.minsi c3_i32_674 v646
  let c1024_i32_677 : BitVec 32 := 1024#32
  let v651 : BitVec 32 := Scalar.muli v647 c1024_i32_677
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_678 : BitVec 32 := 256#32
  let v652 : BitVec 32 := Scalar.muli v20 c256_i32_678
  let v653 : BitVec 32 := Scalar.addi v651 v652
  let c0_i32_834 : BitVec 32 := 0#32
  ![v653.toNat, 0]
def k0_off63 (d0 : Dev nD) : Fin 2 → Nat :=
  let c3_i32_674 : BitVec 32 := 3#32
  let c0_i32_673 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_671 : BitVec 32 := 1#32
  let v644 : BitVec 32 := Scalar.addi v8 c1_i32_671
  let c2_i32_672 : BitVec 32 := 2#32
  let v645 : BitVec 32 := Scalar.addi v644 c2_i32_672
  let v646 : BitVec 32 := Scalar.maxsi c0_i32_673 v645
  let v647 : BitVec 32 := Scalar.minsi c3_i32_674 v646
  let c1024_i32_681 : BitVec 32 := 1024#32
  let v657 : BitVec 32 := Scalar.muli v647 c1024_i32_681
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c256_i32_682 : BitVec 32 := 256#32
  let v658 : BitVec 32 := Scalar.muli v20 c256_i32_682
  let v659 : BitVec 32 := Scalar.addi v657 v658
  let c256_i32_840 : BitVec 32 := 256#32
  ![v659.toNat, 256]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_30 : BitVec 32 := 0#32
  let v52 : BitVec 1 := Scalar.cmpi .sge v8 c0_i32_30
  let c2_i32_31 : BitVec 32 := 2#32
  let v53 : BitVec 1 := Scalar.cmpi .sle v8 c2_i32_31
  let v54 : BitVec 1 := Scalar.andi v52 v53
  let v662 : BitVec 32 := Scalar.extui v54
  let c0_i32_694 : BitVec 32 := 0#32
  let v663 : BitVec 1 := Scalar.cmpi .ne v662 c0_i32_694
  v663

def k0_off64 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v61 : BitVec 32 := Scalar.muli v10 c256_i32
  let c0_i32_831 : BitVec 32 := 0#32
  ![v61.toNat, 0]
def k0_off65 (d0 : Dev nD) : Fin 2 → Nat :=
  let c3_i32_34 : BitVec 32 := 3#32
  let c0_i32_33 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_32 : BitVec 32 := 0#32
  let v55 : BitVec 32 := Scalar.subi v8 c0_i32_32
  let v56 : BitVec 32 := Scalar.maxsi c0_i32_33 v55
  let v57 : BitVec 32 := Scalar.minsi c3_i32_34 v56
  let c1024_i32 : BitVec 32 := 1024#32
  let v62 : BitVec 32 := Scalar.muli v57 c1024_i32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_38 : BitVec 32 := 256#32
  let v63 : BitVec 32 := Scalar.muli v10 c256_i32_38
  let v64 : BitVec 32 := Scalar.addi v62 v63
  let c0_i32_832 : BitVec 32 := 0#32
  ![v64.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v67 : BitVec 1 := Scalar.cmpi .sge v8 c1_i32_42
  let c0_i32_43 : BitVec 32 := 0#32
  let v68 : BitVec 32 := Scalar.addi v8 c0_i32_43
  let c3_i32_44 : BitVec 32 := 3#32
  let v69 : BitVec 1 := Scalar.cmpi .sle v68 c3_i32_44
  let v70 : BitVec 1 := Scalar.andi v67 v69
  let v664 : BitVec 32 := Scalar.extui v70
  let c0_i32_697 : BitVec 32 := 0#32
  let v665 : BitVec 1 := Scalar.cmpi .ne v664 c0_i32_697
  v665

def k0_off66 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_51 : BitVec 32 := 256#32
  let v77 : BitVec 32 := Scalar.muli v10 c256_i32_51
  let c0_i32_831 : BitVec 32 := 0#32
  ![v77.toNat, 0]
def k0_off67 (d0 : Dev nD) : Fin 2 → Nat :=
  let c3_i32_47 : BitVec 32 := 3#32
  let c0_i32_46 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v71 : BitVec 32 := Scalar.addi v8 c0_i32_45
  let v72 : BitVec 32 := Scalar.maxsi c0_i32_46 v71
  let v73 : BitVec 32 := Scalar.minsi c3_i32_47 v72
  let c1024_i32_52 : BitVec 32 := 1024#32
  let v78 : BitVec 32 := Scalar.muli v73 c1024_i32_52
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_53 : BitVec 32 := 256#32
  let v79 : BitVec 32 := Scalar.muli v10 c256_i32_53
  let v80 : BitVec 32 := Scalar.addi v78 v79
  let c0_i32_832 : BitVec 32 := 0#32
  ![v80.toNat, 0]
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v101 : BitVec 1 := Scalar.cmpi .sge v8 c1_i32_72
  let c2_i32_73 : BitVec 32 := 2#32
  let v102 : BitVec 1 := Scalar.cmpi .sle v8 c2_i32_73
  let v103 : BitVec 1 := Scalar.andi v101 v102
  let v666 : BitVec 32 := Scalar.extui v103
  let c0_i32_700 : BitVec 32 := 0#32
  let v667 : BitVec 1 := Scalar.cmpi .ne v666 c0_i32_700
  v667

def k0_off68 (d0 : Dev nD) : Fin 2 → Nat :=
  let c3_i32_76 : BitVec 32 := 3#32
  let c0_i32_75 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v104 : BitVec 32 := Scalar.subi v8 c1_i32_74
  let v105 : BitVec 32 := Scalar.maxsi c0_i32_75 v104
  let v106 : BitVec 32 := Scalar.minsi c3_i32_76 v105
  let c1024_i32_80 : BitVec 32 := 1024#32
  let v110 : BitVec 32 := Scalar.muli v106 c1024_i32_80
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_81 : BitVec 32 := 256#32
  let v111 : BitVec 32 := Scalar.muli v10 c256_i32_81
  let v112 : BitVec 32 := Scalar.addi v110 v111
  let c0_i32_831 : BitVec 32 := 0#32
  ![v112.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v131 : BitVec 1 := Scalar.cmpi .sge v8 c1_i32_99
  let c1_i32_100 : BitVec 32 := 1#32
  let v132 : BitVec 32 := Scalar.addi v8 c1_i32_100
  let c3_i32_101 : BitVec 32 := 3#32
  let v133 : BitVec 1 := Scalar.cmpi .sle v132 c3_i32_101
  let v134 : BitVec 1 := Scalar.andi v131 v133
  let v668 : BitVec 32 := Scalar.extui v134
  let c0_i32_703 : BitVec 32 := 0#32
  let v669 : BitVec 1 := Scalar.cmpi .ne v668 c0_i32_703
  v669

def k0_off69 (d0 : Dev nD) : Fin 2 → Nat :=
  let c3_i32_104 : BitVec 32 := 3#32
  let c0_i32_103 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v135 : BitVec 32 := Scalar.addi v8 c1_i32_102
  let v136 : BitVec 32 := Scalar.maxsi c0_i32_103 v135
  let v137 : BitVec 32 := Scalar.minsi c3_i32_104 v136
  let c1024_i32_108 : BitVec 32 := 1024#32
  let v141 : BitVec 32 := Scalar.muli v137 c1024_i32_108
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_109 : BitVec 32 := 256#32
  let v142 : BitVec 32 := Scalar.muli v10 c256_i32_109
  let v143 : BitVec 32 := Scalar.addi v141 v142
  let c0_i32_831 : BitVec 32 := 0#32
  ![v143.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v149 : BitVec 1 := Scalar.cmpi .sge v8 c1_i32_115
  let v670 : BitVec 32 := Scalar.extui v149
  let c0_i32_708 : BitVec 32 := 0#32
  let v671 : BitVec 1 := Scalar.cmpi .ne v670 c0_i32_708
  v671

def k0_off70 (d0 : Dev nD) : Fin 2 → Nat :=
  let c3_i32_119 : BitVec 32 := 3#32
  let c0_i32_118 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v150 : BitVec 32 := Scalar.subi v8 c1_i32_116
  let c0_i32_117 : BitVec 32 := 0#32
  let v151 : BitVec 32 := Scalar.subi v150 c0_i32_117
  let v152 : BitVec 32 := Scalar.maxsi c0_i32_118 v151
  let v153 : BitVec 32 := Scalar.minsi c3_i32_119 v152
  let c1024_i32_120 : BitVec 32 := 1024#32
  let v154 : BitVec 32 := Scalar.muli v153 c1024_i32_120
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_121 : BitVec 32 := 256#32
  let v155 : BitVec 32 := Scalar.muli v10 c256_i32_121
  let v156 : BitVec 32 := Scalar.addi v154 v155
  let c0_i32_831 : BitVec 32 := 0#32
  ![v156.toNat, 0]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v149 : BitVec 1 := Scalar.cmpi .sge v8 c1_i32_115
  let v672 : BitVec 32 := Scalar.extui v149
  let c0_i32_713 : BitVec 32 := 0#32
  let v673 : BitVec 1 := Scalar.cmpi .ne v672 c0_i32_713
  v673

def k0_off71 (d0 : Dev nD) : Fin 2 → Nat :=
  let c3_i32_119 : BitVec 32 := 3#32
  let c0_i32_118 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v150 : BitVec 32 := Scalar.subi v8 c1_i32_116
  let c0_i32_117 : BitVec 32 := 0#32
  let v151 : BitVec 32 := Scalar.subi v150 c0_i32_117
  let v152 : BitVec 32 := Scalar.maxsi c0_i32_118 v151
  let v153 : BitVec 32 := Scalar.minsi c3_i32_119 v152
  let c1024_i32_129 : BitVec 32 := 1024#32
  let v162 : BitVec 32 := Scalar.muli v153 c1024_i32_129
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_130 : BitVec 32 := 256#32
  let v163 : BitVec 32 := Scalar.muli v10 c256_i32_130
  let v164 : BitVec 32 := Scalar.addi v162 v163
  let c0_i32_831 : BitVec 32 := 0#32
  ![v164.toNat, 0]
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_138 : BitVec 32 := 2#32
  let v170 : BitVec 1 := Scalar.cmpi .sle v8 c2_i32_138
  let v674 : BitVec 32 := Scalar.extui v170
  let c0_i32_718 : BitVec 32 := 0#32
  let v675 : BitVec 1 := Scalar.cmpi .ne v674 c0_i32_718
  v675

def k0_off72 (d0 : Dev nD) : Fin 2 → Nat :=
  let c3_i32_142 : BitVec 32 := 3#32
  let c0_i32_141 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v171 : BitVec 32 := Scalar.addi v8 c1_i32_139
  let c0_i32_140 : BitVec 32 := 0#32
  let v172 : BitVec 32 := Scalar.addi v171 c0_i32_140
  let v173 : BitVec 32 := Scalar.maxsi c0_i32_141 v172
  let v174 : BitVec 32 := Scalar.minsi c3_i32_142 v173
  let c1024_i32_143 : BitVec 32 := 1024#32
  let v175 : BitVec 32 := Scalar.muli v174 c1024_i32_143
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_144 : BitVec 32 := 256#32
  let v176 : BitVec 32 := Scalar.muli v10 c256_i32_144
  let v177 : BitVec 32 := Scalar.addi v175 v176
  let c0_i32_831 : BitVec 32 := 0#32
  ![v177.toNat, 0]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_138 : BitVec 32 := 2#32
  let v170 : BitVec 1 := Scalar.cmpi .sle v8 c2_i32_138
  let v676 : BitVec 32 := Scalar.extui v170
  let c0_i32_723 : BitVec 32 := 0#32
  let v677 : BitVec 1 := Scalar.cmpi .ne v676 c0_i32_723
  v677

def k0_off73 (d0 : Dev nD) : Fin 2 → Nat :=
  let c3_i32_142 : BitVec 32 := 3#32
  let c0_i32_141 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_139 : BitVec 32 := 1#32
  let v171 : BitVec 32 := Scalar.addi v8 c1_i32_139
  let c0_i32_140 : BitVec 32 := 0#32
  let v172 : BitVec 32 := Scalar.addi v171 c0_i32_140
  let v173 : BitVec 32 := Scalar.maxsi c0_i32_141 v172
  let v174 : BitVec 32 := Scalar.minsi c3_i32_142 v173
  let c1024_i32_152 : BitVec 32 := 1024#32
  let v183 : BitVec 32 := Scalar.muli v174 c1024_i32_152
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_153 : BitVec 32 := 256#32
  let v184 : BitVec 32 := Scalar.muli v10 c256_i32_153
  let v185 : BitVec 32 := Scalar.addi v183 v184
  let c0_i32_831 : BitVec 32 := 0#32
  ![v185.toNat, 0]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v191 : BitVec 1 := Scalar.cmpi .sge v8 c1_i32_161
  let v678 : BitVec 32 := Scalar.extui v191
  let c0_i32_728 : BitVec 32 := 0#32
  let v679 : BitVec 1 := Scalar.cmpi .ne v678 c0_i32_728
  v679

def k0_off74 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_174 : BitVec 32 := 1024#32
  let v208 : BitVec 32 := Scalar.muli v195 c1024_i32_174
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_175 : BitVec 32 := 256#32
  let v209 : BitVec 32 := Scalar.muli v13 c256_i32_175
  let v210 : BitVec 32 := Scalar.addi v208 v209
  let c0_i32_831 : BitVec 32 := 0#32
  ![v210.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v191 : BitVec 1 := Scalar.cmpi .sge v8 c1_i32_161
  let v680 : BitVec 32 := Scalar.extui v191
  let c0_i32_733 : BitVec 32 := 0#32
  let v681 : BitVec 1 := Scalar.cmpi .ne v680 c0_i32_733
  v681

def k0_off75 (d0 : Dev nD) : Fin 2 → Nat :=
  let c3_i32_165 : BitVec 32 := 3#32
  let c0_i32_164 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v192 : BitVec 32 := Scalar.subi v8 c1_i32_162
  let c0_i32_163 : BitVec 32 := 0#32
  let v193 : BitVec 32 := Scalar.subi v192 c0_i32_163
  let v194 : BitVec 32 := Scalar.maxsi c0_i32_164 v193
  let v195 : BitVec 32 := Scalar.minsi c3_i32_165 v194
  let c1024_i32_178 : BitVec 32 := 1024#32
  let v214 : BitVec 32 := Scalar.muli v195 c1024_i32_178
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_179 : BitVec 32 := 256#32
  let v215 : BitVec 32 := Scalar.muli v16 c256_i32_179
  let v216 : BitVec 32 := Scalar.addi v214 v215
  let c256_i32_831 : BitVec 32 := 256#32
  ![v216.toNat, 256]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v222 : BitVec 1 := Scalar.cmpi .sle v8 c2_i32_199
  let v682 : BitVec 32 := Scalar.extui v222
  let c0_i32_738 : BitVec 32 := 0#32
  let v683 : BitVec 1 := Scalar.cmpi .ne v682 c0_i32_738
  v683

def k0_off76 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_212 : BitVec 32 := 1024#32
  let v239 : BitVec 32 := Scalar.muli v226 c1024_i32_212
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_213 : BitVec 32 := 256#32
  let v240 : BitVec 32 := Scalar.muli v13 c256_i32_213
  let v241 : BitVec 32 := Scalar.addi v239 v240
  let c0_i32_831 : BitVec 32 := 0#32
  ![v241.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_199 : BitVec 32 := 2#32
  let v222 : BitVec 1 := Scalar.cmpi .sle v8 c2_i32_199
  let v684 : BitVec 32 := Scalar.extui v222
  let c0_i32_743 : BitVec 32 := 0#32
  let v685 : BitVec 1 := Scalar.cmpi .ne v684 c0_i32_743
  v685

def k0_off77 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v223 : BitVec 32 := Scalar.addi v8 c1_i32_200
  let c0_i32_201 : BitVec 32 := 0#32
  let v224 : BitVec 32 := Scalar.addi v223 c0_i32_201
  let v225 : BitVec 32 := Scalar.maxsi c0_i32_202 v224
  let v226 : BitVec 32 := Scalar.minsi c3_i32_203 v225
  let c1024_i32_216 : BitVec 32 := 1024#32
  let v245 : BitVec 32 := Scalar.muli v226 c1024_i32_216
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_217 : BitVec 32 := 256#32
  let v246 : BitVec 32 := Scalar.muli v16 c256_i32_217
  let v247 : BitVec 32 := Scalar.addi v245 v246
  let c256_i32_831 : BitVec 32 := 256#32
  ![v247.toNat, 256]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_249 : BitVec 32 := 2#32
  let v266 : BitVec 1 := Scalar.cmpi .sge v8 c2_i32_249
  let c2_i32_250 : BitVec 32 := 2#32
  let v267 : BitVec 1 := Scalar.cmpi .sle v8 c2_i32_250
  let v268 : BitVec 1 := Scalar.andi v266 v267
  let v686 : BitVec 32 := Scalar.extui v268
  let c0_i32_746 : BitVec 32 := 0#32
  let v687 : BitVec 1 := Scalar.cmpi .ne v686 c0_i32_746
  v687

def k0_off78 (d0 : Dev nD) : Fin 2 → Nat :=
  let c3_i32_253 : BitVec 32 := 3#32
  let c0_i32_252 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_251 : BitVec 32 := 2#32
  let v269 : BitVec 32 := Scalar.subi v8 c2_i32_251
  let v270 : BitVec 32 := Scalar.maxsi c0_i32_252 v269
  let v271 : BitVec 32 := Scalar.minsi c3_i32_253 v270
  let c1024_i32_257 : BitVec 32 := 1024#32
  let v275 : BitVec 32 := Scalar.muli v271 c1024_i32_257
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_258 : BitVec 32 := 256#32
  let v276 : BitVec 32 := Scalar.muli v10 c256_i32_258
  let v277 : BitVec 32 := Scalar.addi v275 v276
  let c0_i32_831 : BitVec 32 := 0#32
  ![v277.toNat, 0]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v296 : BitVec 1 := Scalar.cmpi .sge v8 c1_i32_276
  let c2_i32_277 : BitVec 32 := 2#32
  let v297 : BitVec 32 := Scalar.addi v8 c2_i32_277
  let c3_i32_278 : BitVec 32 := 3#32
  let v298 : BitVec 1 := Scalar.cmpi .sle v297 c3_i32_278
  let v299 : BitVec 1 := Scalar.andi v296 v298
  let v688 : BitVec 32 := Scalar.extui v299
  let c0_i32_749 : BitVec 32 := 0#32
  let v689 : BitVec 1 := Scalar.cmpi .ne v688 c0_i32_749
  v689

def k0_off79 (d0 : Dev nD) : Fin 2 → Nat :=
  let c3_i32_281 : BitVec 32 := 3#32
  let c0_i32_280 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_279 : BitVec 32 := 2#32
  let v300 : BitVec 32 := Scalar.addi v8 c2_i32_279
  let v301 : BitVec 32 := Scalar.maxsi c0_i32_280 v300
  let v302 : BitVec 32 := Scalar.minsi c3_i32_281 v301
  let c1024_i32_285 : BitVec 32 := 1024#32
  let v306 : BitVec 32 := Scalar.muli v302 c1024_i32_285
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_286 : BitVec 32 := 256#32
  let v307 : BitVec 32 := Scalar.muli v10 c256_i32_286
  let v308 : BitVec 32 := Scalar.addi v306 v307
  let c0_i32_831 : BitVec 32 := 0#32
  ![v308.toNat, 0]
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_292 : BitVec 32 := 2#32
  let v314 : BitVec 1 := Scalar.cmpi .sge v8 c2_i32_292
  let v690 : BitVec 32 := Scalar.extui v314
  let c0_i32_754 : BitVec 32 := 0#32
  let v691 : BitVec 1 := Scalar.cmpi .ne v690 c0_i32_754
  v691

def k0_off80 (d0 : Dev nD) : Fin 2 → Nat :=
  let c3_i32_296 : BitVec 32 := 3#32
  let c0_i32_295 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v315 : BitVec 32 := Scalar.subi v8 c1_i32_293
  let c1_i32_294 : BitVec 32 := 1#32
  let v316 : BitVec 32 := Scalar.subi v315 c1_i32_294
  let v317 : BitVec 32 := Scalar.maxsi c0_i32_295 v316
  let v318 : BitVec 32 := Scalar.minsi c3_i32_296 v317
  let c1024_i32_297 : BitVec 32 := 1024#32
  let v319 : BitVec 32 := Scalar.muli v318 c1024_i32_297
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_298 : BitVec 32 := 256#32
  let v320 : BitVec 32 := Scalar.muli v10 c256_i32_298
  let v321 : BitVec 32 := Scalar.addi v319 v320
  let c0_i32_831 : BitVec 32 := 0#32
  ![v321.toNat, 0]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_292 : BitVec 32 := 2#32
  let v314 : BitVec 1 := Scalar.cmpi .sge v8 c2_i32_292
  let v692 : BitVec 32 := Scalar.extui v314
  let c0_i32_759 : BitVec 32 := 0#32
  let v693 : BitVec 1 := Scalar.cmpi .ne v692 c0_i32_759
  v693

def k0_off81 (d0 : Dev nD) : Fin 2 → Nat :=
  let c3_i32_296 : BitVec 32 := 3#32
  let c0_i32_295 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v315 : BitVec 32 := Scalar.subi v8 c1_i32_293
  let c1_i32_294 : BitVec 32 := 1#32
  let v316 : BitVec 32 := Scalar.subi v315 c1_i32_294
  let v317 : BitVec 32 := Scalar.maxsi c0_i32_295 v316
  let v318 : BitVec 32 := Scalar.minsi c3_i32_296 v317
  let c1024_i32_306 : BitVec 32 := 1024#32
  let v327 : BitVec 32 := Scalar.muli v318 c1024_i32_306
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_307 : BitVec 32 := 256#32
  let v328 : BitVec 32 := Scalar.muli v10 c256_i32_307
  let v329 : BitVec 32 := Scalar.addi v327 v328
  let c0_i32_831 : BitVec 32 := 0#32
  ![v329.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v335 : BitVec 1 := Scalar.cmpi .sle v8 c1_i32_315
  let v694 : BitVec 32 := Scalar.extui v335
  let c0_i32_764 : BitVec 32 := 0#32
  let v695 : BitVec 1 := Scalar.cmpi .ne v694 c0_i32_764
  v695

def k0_off82 (d0 : Dev nD) : Fin 2 → Nat :=
  let c3_i32_319 : BitVec 32 := 3#32
  let c0_i32_318 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v336 : BitVec 32 := Scalar.addi v8 c1_i32_316
  let c1_i32_317 : BitVec 32 := 1#32
  let v337 : BitVec 32 := Scalar.addi v336 c1_i32_317
  let v338 : BitVec 32 := Scalar.maxsi c0_i32_318 v337
  let v339 : BitVec 32 := Scalar.minsi c3_i32_319 v338
  let c1024_i32_320 : BitVec 32 := 1024#32
  let v340 : BitVec 32 := Scalar.muli v339 c1024_i32_320
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_321 : BitVec 32 := 256#32
  let v341 : BitVec 32 := Scalar.muli v10 c256_i32_321
  let v342 : BitVec 32 := Scalar.addi v340 v341
  let c0_i32_831 : BitVec 32 := 0#32
  ![v342.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v335 : BitVec 1 := Scalar.cmpi .sle v8 c1_i32_315
  let v696 : BitVec 32 := Scalar.extui v335
  let c0_i32_769 : BitVec 32 := 0#32
  let v697 : BitVec 1 := Scalar.cmpi .ne v696 c0_i32_769
  v697

def k0_off83 (d0 : Dev nD) : Fin 2 → Nat :=
  let c3_i32_319 : BitVec 32 := 3#32
  let c0_i32_318 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v336 : BitVec 32 := Scalar.addi v8 c1_i32_316
  let c1_i32_317 : BitVec 32 := 1#32
  let v337 : BitVec 32 := Scalar.addi v336 c1_i32_317
  let v338 : BitVec 32 := Scalar.maxsi c0_i32_318 v337
  let v339 : BitVec 32 := Scalar.minsi c3_i32_319 v338
  let c1024_i32_329 : BitVec 32 := 1024#32
  let v348 : BitVec 32 := Scalar.muli v339 c1024_i32_329
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_330 : BitVec 32 := 256#32
  let v349 : BitVec 32 := Scalar.muli v10 c256_i32_330
  let v350 : BitVec 32 := Scalar.addi v348 v349
  let c0_i32_831 : BitVec 32 := 0#32
  ![v350.toNat, 0]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_338 : BitVec 32 := 2#32
  let v356 : BitVec 1 := Scalar.cmpi .sge v8 c2_i32_338
  let v698 : BitVec 32 := Scalar.extui v356
  let c0_i32_774 : BitVec 32 := 0#32
  let v699 : BitVec 1 := Scalar.cmpi .ne v698 c0_i32_774
  v699

def k0_off84 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_351 : BitVec 32 := 1024#32
  let v373 : BitVec 32 := Scalar.muli v360 c1024_i32_351
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_352 : BitVec 32 := 256#32
  let v374 : BitVec 32 := Scalar.muli v13 c256_i32_352
  let v375 : BitVec 32 := Scalar.addi v373 v374
  let c0_i32_831 : BitVec 32 := 0#32
  ![v375.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_338 : BitVec 32 := 2#32
  let v356 : BitVec 1 := Scalar.cmpi .sge v8 c2_i32_338
  let v700 : BitVec 32 := Scalar.extui v356
  let c0_i32_779 : BitVec 32 := 0#32
  let v701 : BitVec 1 := Scalar.cmpi .ne v700 c0_i32_779
  v701

def k0_off85 (d0 : Dev nD) : Fin 2 → Nat :=
  let c3_i32_342 : BitVec 32 := 3#32
  let c0_i32_341 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v357 : BitVec 32 := Scalar.subi v8 c1_i32_339
  let c1_i32_340 : BitVec 32 := 1#32
  let v358 : BitVec 32 := Scalar.subi v357 c1_i32_340
  let v359 : BitVec 32 := Scalar.maxsi c0_i32_341 v358
  let v360 : BitVec 32 := Scalar.minsi c3_i32_342 v359
  let c1024_i32_355 : BitVec 32 := 1024#32
  let v379 : BitVec 32 := Scalar.muli v360 c1024_i32_355
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_356 : BitVec 32 := 256#32
  let v380 : BitVec 32 := Scalar.muli v16 c256_i32_356
  let v381 : BitVec 32 := Scalar.addi v379 v380
  let c256_i32_831 : BitVec 32 := 256#32
  ![v381.toNat, 256]
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v387 : BitVec 1 := Scalar.cmpi .sle v8 c1_i32_376
  let v702 : BitVec 32 := Scalar.extui v387
  let c0_i32_784 : BitVec 32 := 0#32
  let v703 : BitVec 1 := Scalar.cmpi .ne v702 c0_i32_784
  v703

def k0_off86 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_389 : BitVec 32 := 1024#32
  let v404 : BitVec 32 := Scalar.muli v391 c1024_i32_389
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_390 : BitVec 32 := 256#32
  let v405 : BitVec 32 := Scalar.muli v13 c256_i32_390
  let v406 : BitVec 32 := Scalar.addi v404 v405
  let c0_i32_831 : BitVec 32 := 0#32
  ![v406.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v387 : BitVec 1 := Scalar.cmpi .sle v8 c1_i32_376
  let v704 : BitVec 32 := Scalar.extui v387
  let c0_i32_789 : BitVec 32 := 0#32
  let v705 : BitVec 1 := Scalar.cmpi .ne v704 c0_i32_789
  v705

def k0_off87 (d0 : Dev nD) : Fin 2 → Nat :=
  let c3_i32_380 : BitVec 32 := 3#32
  let c0_i32_379 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v388 : BitVec 32 := Scalar.addi v8 c1_i32_377
  let c1_i32_378 : BitVec 32 := 1#32
  let v389 : BitVec 32 := Scalar.addi v388 c1_i32_378
  let v390 : BitVec 32 := Scalar.maxsi c0_i32_379 v389
  let v391 : BitVec 32 := Scalar.minsi c3_i32_380 v390
  let c1024_i32_393 : BitVec 32 := 1024#32
  let v410 : BitVec 32 := Scalar.muli v391 c1024_i32_393
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_394 : BitVec 32 := 256#32
  let v411 : BitVec 32 := Scalar.muli v16 c256_i32_394
  let v412 : BitVec 32 := Scalar.addi v410 v411
  let c256_i32_831 : BitVec 32 := 256#32
  ![v412.toNat, 256]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v444 : BitVec 1 := Scalar.cmpi .sge v8 c3_i32_438
  let v706 : BitVec 32 := Scalar.extui v444
  let c0_i32_794 : BitVec 32 := 0#32
  let v707 : BitVec 1 := Scalar.cmpi .ne v706 c0_i32_794
  v707

def k0_off88 (d0 : Dev nD) : Fin 2 → Nat :=
  let c3_i32_442 : BitVec 32 := 3#32
  let c0_i32_441 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v445 : BitVec 32 := Scalar.subi v8 c1_i32_439
  let c2_i32_440 : BitVec 32 := 2#32
  let v446 : BitVec 32 := Scalar.subi v445 c2_i32_440
  let v447 : BitVec 32 := Scalar.maxsi c0_i32_441 v446
  let v448 : BitVec 32 := Scalar.minsi c3_i32_442 v447
  let c1024_i32_443 : BitVec 32 := 1024#32
  let v449 : BitVec 32 := Scalar.muli v448 c1024_i32_443
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_444 : BitVec 32 := 256#32
  let v450 : BitVec 32 := Scalar.muli v10 c256_i32_444
  let v451 : BitVec 32 := Scalar.addi v449 v450
  let c0_i32_831 : BitVec 32 := 0#32
  ![v451.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_438 : BitVec 32 := 3#32
  let v444 : BitVec 1 := Scalar.cmpi .sge v8 c3_i32_438
  let v708 : BitVec 32 := Scalar.extui v444
  let c0_i32_799 : BitVec 32 := 0#32
  let v709 : BitVec 1 := Scalar.cmpi .ne v708 c0_i32_799
  v709

def k0_off89 (d0 : Dev nD) : Fin 2 → Nat :=
  let c3_i32_442 : BitVec 32 := 3#32
  let c0_i32_441 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v445 : BitVec 32 := Scalar.subi v8 c1_i32_439
  let c2_i32_440 : BitVec 32 := 2#32
  let v446 : BitVec 32 := Scalar.subi v445 c2_i32_440
  let v447 : BitVec 32 := Scalar.maxsi c0_i32_441 v446
  let v448 : BitVec 32 := Scalar.minsi c3_i32_442 v447
  let c1024_i32_452 : BitVec 32 := 1024#32
  let v457 : BitVec 32 := Scalar.muli v448 c1024_i32_452
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_453 : BitVec 32 := 256#32
  let v458 : BitVec 32 := Scalar.muli v10 c256_i32_453
  let v459 : BitVec 32 := Scalar.addi v457 v458
  let c0_i32_831 : BitVec 32 := 0#32
  ![v459.toNat, 0]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_461 : BitVec 32 := 0#32
  let v465 : BitVec 1 := Scalar.cmpi .sle v8 c0_i32_461
  let v710 : BitVec 32 := Scalar.extui v465
  let c0_i32_804 : BitVec 32 := 0#32
  let v711 : BitVec 1 := Scalar.cmpi .ne v710 c0_i32_804
  v711

def k0_off90 (d0 : Dev nD) : Fin 2 → Nat :=
  let c3_i32_465 : BitVec 32 := 3#32
  let c0_i32_464 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v466 : BitVec 32 := Scalar.addi v8 c1_i32_462
  let c2_i32_463 : BitVec 32 := 2#32
  let v467 : BitVec 32 := Scalar.addi v466 c2_i32_463
  let v468 : BitVec 32 := Scalar.maxsi c0_i32_464 v467
  let v469 : BitVec 32 := Scalar.minsi c3_i32_465 v468
  let c1024_i32_466 : BitVec 32 := 1024#32
  let v470 : BitVec 32 := Scalar.muli v469 c1024_i32_466
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_467 : BitVec 32 := 256#32
  let v471 : BitVec 32 := Scalar.muli v10 c256_i32_467
  let v472 : BitVec 32 := Scalar.addi v470 v471
  let c0_i32_831 : BitVec 32 := 0#32
  ![v472.toNat, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_461 : BitVec 32 := 0#32
  let v465 : BitVec 1 := Scalar.cmpi .sle v8 c0_i32_461
  let v712 : BitVec 32 := Scalar.extui v465
  let c0_i32_809 : BitVec 32 := 0#32
  let v713 : BitVec 1 := Scalar.cmpi .ne v712 c0_i32_809
  v713

def k0_off91 (d0 : Dev nD) : Fin 2 → Nat :=
  let c3_i32_465 : BitVec 32 := 3#32
  let c0_i32_464 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v466 : BitVec 32 := Scalar.addi v8 c1_i32_462
  let c2_i32_463 : BitVec 32 := 2#32
  let v467 : BitVec 32 := Scalar.addi v466 c2_i32_463
  let v468 : BitVec 32 := Scalar.maxsi c0_i32_464 v467
  let v469 : BitVec 32 := Scalar.minsi c3_i32_465 v468
  let c1024_i32_475 : BitVec 32 := 1024#32
  let v478 : BitVec 32 := Scalar.muli v469 c1024_i32_475
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_476 : BitVec 32 := 256#32
  let v479 : BitVec 32 := Scalar.muli v10 c256_i32_476
  let v480 : BitVec 32 := Scalar.addi v478 v479
  let c0_i32_831 : BitVec 32 := 0#32
  ![v480.toNat, 0]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_484 : BitVec 32 := 3#32
  let v486 : BitVec 1 := Scalar.cmpi .sge v8 c3_i32_484
  let v714 : BitVec 32 := Scalar.extui v486
  let c0_i32_814 : BitVec 32 := 0#32
  let v715 : BitVec 1 := Scalar.cmpi .ne v714 c0_i32_814
  v715

def k0_off92 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_497 : BitVec 32 := 1024#32
  let v503 : BitVec 32 := Scalar.muli v490 c1024_i32_497
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_498 : BitVec 32 := 256#32
  let v504 : BitVec 32 := Scalar.muli v13 c256_i32_498
  let v505 : BitVec 32 := Scalar.addi v503 v504
  let c0_i32_831 : BitVec 32 := 0#32
  ![v505.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_484 : BitVec 32 := 3#32
  let v486 : BitVec 1 := Scalar.cmpi .sge v8 c3_i32_484
  let v716 : BitVec 32 := Scalar.extui v486
  let c0_i32_819 : BitVec 32 := 0#32
  let v717 : BitVec 1 := Scalar.cmpi .ne v716 c0_i32_819
  v717

def k0_off93 (d0 : Dev nD) : Fin 2 → Nat :=
  let c3_i32_488 : BitVec 32 := 3#32
  let c0_i32_487 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_485 : BitVec 32 := 1#32
  let v487 : BitVec 32 := Scalar.subi v8 c1_i32_485
  let c2_i32_486 : BitVec 32 := 2#32
  let v488 : BitVec 32 := Scalar.subi v487 c2_i32_486
  let v489 : BitVec 32 := Scalar.maxsi c0_i32_487 v488
  let v490 : BitVec 32 := Scalar.minsi c3_i32_488 v489
  let c1024_i32_501 : BitVec 32 := 1024#32
  let v509 : BitVec 32 := Scalar.muli v490 c1024_i32_501
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_502 : BitVec 32 := 256#32
  let v510 : BitVec 32 := Scalar.muli v16 c256_i32_502
  let v511 : BitVec 32 := Scalar.addi v509 v510
  let c256_i32_831 : BitVec 32 := 256#32
  ![v511.toNat, 256]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_522 : BitVec 32 := 0#32
  let v517 : BitVec 1 := Scalar.cmpi .sle v8 c0_i32_522
  let v718 : BitVec 32 := Scalar.extui v517
  let c0_i32_824 : BitVec 32 := 0#32
  let v719 : BitVec 1 := Scalar.cmpi .ne v718 c0_i32_824
  v719

def k0_off94 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_535 : BitVec 32 := 1024#32
  let v534 : BitVec 32 := Scalar.muli v521 c1024_i32_535
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c256_i32_536 : BitVec 32 := 256#32
  let v535 : BitVec 32 := Scalar.muli v13 c256_i32_536
  let v536 : BitVec 32 := Scalar.addi v534 v535
  let c0_i32_831 : BitVec 32 := 0#32
  ![v536.toNat, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_522 : BitVec 32 := 0#32
  let v517 : BitVec 1 := Scalar.cmpi .sle v8 c0_i32_522
  let v720 : BitVec 32 := Scalar.extui v517
  let c0_i32_829 : BitVec 32 := 0#32
  let v721 : BitVec 1 := Scalar.cmpi .ne v720 c0_i32_829
  v721

def k0_off95 (d0 : Dev nD) : Fin 2 → Nat :=
  let c3_i32_526 : BitVec 32 := 3#32
  let c0_i32_525 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v518 : BitVec 32 := Scalar.addi v8 c1_i32_523
  let c2_i32_524 : BitVec 32 := 2#32
  let v519 : BitVec 32 := Scalar.addi v518 c2_i32_524
  let v520 : BitVec 32 := Scalar.maxsi c0_i32_525 v519
  let v521 : BitVec 32 := Scalar.minsi c3_i32_526 v520
  let c1024_i32_539 : BitVec 32 := 1024#32
  let v540 : BitVec 32 := Scalar.muli v521 c1024_i32_539
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c256_i32_540 : BitVec 32 := 256#32
  let v541 : BitVec 32 := Scalar.muli v16 c256_i32_540
  let v542 : BitVec 32 := Scalar.addi v540 v541
  let c256_i32_831 : BitVec 32 := 256#32
  ![v542.toNat, 256]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The transfers of the gather, as a table

The kernel gathers the four blocks of `x` along the mesh axis `z` onto every device of a `2 × 2 × 4` mesh. Each block
is cut in four quarters of 256 rows; the four devices of one `(x, y)` plane each carry one quarter along `z`, then pass
it to the two plane neighbours, which pass one half of it on to the device diagonally opposite.

A device makes up to thirty transfers. One is named by a triple `(k, f, h)`: its kind `k` — `0` along `z`, `1` and `2`
a whole quarter to the `x` and the `y` neighbour, `3` and `4` half a quarter forwarded to the `x` and the `y`
neighbour —, the direction `f` along `z` from which the quarter came (`true`: from below, moving up), and how many
hops `h` it made before. This module says, of each transfer, on which devices it happens, who receives it, which
rows and columns it moves and which semaphores it uses, and in which order a device issues and awaits them.
-/
module

public import proofs.«01_k».proof.Proof.Gen.KernelIdeal

@[expose] public section

namespace Cert.Gather

open Cert.KernelIdeal Idealize.ShloMosaic

/-! ## Devices and neighbours -/

/-- The `z` coordinate of a device. -/
def zc (c : Dev nD) : Nat := c.val % 4
/-- The place of a device in its `(x, y)` plane, which is the quarter it carries along `z`. -/
def qme (c : Dev nD) : Fin 4 := ⟨c.val / 4, by have : c.val < 16 := c.isLt; omega⟩
/-- The quarter carried by the `x` neighbour, -/
def qx (c : Dev nD) : Fin 4 := ⟨(c.val / 4 + 2) % 4, Nat.mod_lt _ (by decide)⟩
/-- by the `y` neighbour, -/
def qy (c : Dev nD) : Fin 4 := ⟨if c.val / 4 % 2 = 0 then (c.val / 4 + 1) % 4 else c.val / 4 % 4 - 1, by split <;> omega⟩
/-- and by the device diagonally opposite in the plane. -/
def qd (c : Dev nD) : Fin 4 := ⟨3 - c.val / 4, by omega⟩

/-- The four neighbours: `0` across `x`, `1` across `y`, `2` below and `3` above along `z` (cyclically, so that each is a
    permutation of the devices; the kernel only addresses those that exist, `has`). -/
def nb (d : Fin 4) (c : Dev nD) : Dev nD :=
  have hc : c.val < 16 := c.isLt
  match d with
  | 0 => ⟨(c.val + 8) % 16, Nat.mod_lt _ (by decide)⟩
  | 1 => ⟨if c.val / 4 % 2 = 0 then (c.val + 4) % 16 else c.val - 4, by show _ < 16; split <;> omega⟩
  | 2 => ⟨c.val / 4 * 4 + (c.val + 3) % 4, by show _ < 16; omega⟩
  | 3 => ⟨c.val / 4 * 4 + (c.val + 1) % 4, by show _ < 16; omega⟩
/-- Whether the kernel talks to that neighbour: the two along `z` only where the line has one. -/
def has (d : Fin 4) (c : Dev nD) : Bool :=
  match d with
  | 0 => true
  | 1 => true
  | 2 => decide (1 ≤ zc c)
  | 3 => decide (zc c ≤ 2)
/-- The way back. -/
def opp (d : Fin 4) : Fin 4 := match d with | 0 => 0 | 1 => 1 | 2 => 3 | 3 => 2

/-- Going and coming back leads to where one was, -/
theorem nb_opp : ∀ (d : Fin 4) (c : Dev nD), nb (opp d) (nb d c) = c := by decide
/-- and so the other way round; -/
theorem nb_opp' : ∀ (d : Fin 4) (c : Dev nD), nb d (nb (opp d) c) = c := by decide
/-- the way back of the way back is the way; -/
theorem opp_opp : ∀ d : Fin 4, opp (opp d) = d := by decide
/-- a neighbour has the way back when there is a way to it. -/
theorem has_nb : ∀ (d : Fin 4) (c : Dev nD), has (opp d) (nb d c) = has d c := by decide

/-! ## Transfers -/

/-- A transfer: kind, direction along `z`, hops made before. -/
abbrev T : Type := Fin 5 × Bool × Fin 3

/-- The neighbour a transfer goes to. -/
def dirOf (t : T) : Fin 4 :=
  match t with
  | (0, true, _) => 3
  | (0, false, _) => 2
  | (1, _, _) => 0
  | (2, _, _) => 1
  | (3, _, _) => 0
  | (4, _, _) => 1
/-- Who receives the transfer `t` made by `c`, and who makes the one `c` receives. -/
def tgt (t : T) (c : Dev nD) : Dev nD := nb (dirOf t) c
def org (t : T) (c : Dev nD) : Dev nD := nb (opp (dirOf t)) c

/-- A transfer comes to its addressee from its sender, -/
theorem org_tgt (t : T) (c : Dev nD) : org t (tgt t c) = c := nb_opp _ _
/-- and goes from its sender to its addressee. -/
theorem tgt_org (t : T) (c : Dev nD) : tgt t (org t c) = c := nb_opp' _ _

/-- Whether a quarter arrives at height `z` from direction `f` after `h + 1` hops, -/
def arr (f : Bool) (h : Fin 3) (z : Nat) : Bool := if f then decide (h.val + 1 ≤ z) else decide (z + h.val + 1 ≤ 3)
/-- and the block it is of (clamped to the line where none arrives). -/
def jAt (f : Bool) (h : Nat) (z : Nat) : Fin 4 :=
  ⟨if f then min 3 (z - h) else min 3 (z + h), by split <;> omega⟩

/-- Whether device `c` makes the transfer `t`, -/
def snd (t : T) (c : Dev nD) : Bool :=
  match t with
  | (0, true, h) => decide (h.val ≤ zc c ∧ zc c ≤ 2)
  | (0, false, h) => decide (1 ≤ zc c ∧ zc c + h.val ≤ 3)
  | (_, f, h) => arr f h (zc c)
/-- and whether it receives it. -/
def rcv (t : T) (c : Dev nD) : Bool := arr t.2.1 t.2.2 (zc c)

/-- A piece of the gathered array: block, quarter, and which columns — `0` all, `1` the left half, `2` the right half. -/
abbrev Reg : Type := Fin 4 × Fin 4 × Fin 3

/-- What device `c` reads for the transfer `t` (for the first hop along `z` the same rows of its own block), -/
def sR (t : T) (c : Dev nD) : Reg :=
  match t with
  | (0, f, h) => (jAt f h.val (zc c), qme c, 0)
  | (1, f, h) => (jAt f (h.val + 1) (zc c), qme c, 0)
  | (2, f, h) => (jAt f (h.val + 1) (zc c), qme c, 0)
  | (3, f, h) => (jAt f (h.val + 1) (zc c), qy c, 2)
  | (4, f, h) => (jAt f (h.val + 1) (zc c), qx c, 1)
/-- and what it finds written by the transfer `t` it receives. -/
def lR (t : T) (c : Dev nD) : Reg :=
  match t with
  | (0, f, h) => (jAt f (h.val + 1) (zc c), qme c, 0)
  | (1, f, h) => (jAt f (h.val + 1) (zc c), qx c, 0)
  | (2, f, h) => (jAt f (h.val + 1) (zc c), qy c, 0)
  | (3, f, h) => (jAt f (h.val + 1) (zc c), qd c, 2)
  | (4, f, h) => (jAt f (h.val + 1) (zc c), qd c, 1)

/-- The arrival whose rows the transfer `t` reads; none for a first hop along `z`, which reads the device's own block. -/
def dep (t : T) : Option T :=
  match t with
  | (0, _, 0) => none
  | (0, f, 1) => some (0, f, 0)
  | (0, f, 2) => some (0, f, 1)
  | (1, f, h) => some (0, f, h)
  | (2, f, h) => some (0, f, h)
  | (3, f, h) => some (2, f, h)
  | (4, f, h) => some (1, f, h)

/-- What is sent is received by the addressee; -/
theorem rcv_tgt : ∀ (t : T) (c : Dev nD), rcv t (tgt t c) = snd t c := by decide +kernel
/-- what a device receives its sender makes; -/
theorem snd_org (t : T) (c : Dev nD) : snd t (org t c) = rcv t c := by rw [← rcv_tgt, tgt_org]
/-- a transfer lands at the place of the gathered array that it was sent from; -/
theorem lR_tgt : ∀ (t : T) (c : Dev nD), snd t c = true → lR t (tgt t c) = sR t c := by decide +kernel
/-- a transfer along a missing neighbour is never made; -/
theorem snd_has : ∀ (t : T) (c : Dev nD), snd t c = true → has (dirOf t) c = true := by decide +kernel
/-- and a device only sends on what has arrived. -/
theorem rcv_dep : ∀ (t p : T) (c : Dev nD), dep t = some p → snd t c = true → rcv p c = true := by decide +kernel

/-! ## Semaphores -/

/-- The number of the DMA semaphore a transfer counts on: `r = false` the sender's, `true` the receiver's. -/
def semNo (r : Bool) (t : T) : Nat :=
  match t with
  | (0, f, h) => 2 + (if f then 0 else 6) + (if r then 3 else 0) + h.val
  | (k, f, h) => 14 + (k.val - 1) * 12 + (if r then 6 else 0) + (if f then 3 else 0) + h.val
/-- The semaphores' numbers are within their table. -/
theorem semNo_lt : ∀ (r : Bool) (t : T), semNo r t < 62 := by decide
def dsem (r : Bool) (t : T) : DmaSem sig := ⟨semNo r t, semNo_lt r t⟩

/-- Which transfer's semaphore a DMA semaphore is. -/
def decN (n : Nat) : Option (Bool × T) :=
  if n < 2 then none
  else if n < 14 then
    some (decide (((n - 2) / 3) % 2 = 1), 0, decide ((n - 2) / 3 < 2), ⟨(n - 2) % 3, Nat.mod_lt _ (by decide)⟩)
  else
    some (decide (((n - 14) / 6) % 2 = 1), ⟨((n - 14) / 12) % 4 + 1, by omega⟩, decide (((n - 14) % 6) / 3 = 1),
      ⟨(n - 14) % 3, Nat.mod_lt _ (by decide)⟩)
/-- A semaphore's number tells its side and transfer; -/
theorem decN_semNo : ∀ (r : Bool) (t : T), decN (semNo r t) = some (r, t) := by decide +kernel
/-- the windows' own tell none. -/
theorem decN_stage : decN 0 = none ∧ decN 1 = none := by decide

/-- The rung of a receive semaphore in the order in which waits may wait on one another. -/
def rung (t : T) : Nat :=
  match t with
  | (0, _, h) => 3 * h.val + 2
  | (1, _, h) => 3 * h.val + 3
  | (2, _, h) => 3 * h.val + 3
  | _ => 20
/-- Every receive semaphore is above the barrier. -/
theorem rung_gt : ∀ t : T, 1 < rung t := by decide

/-! ## The order of a device's operations -/

/-- One operation on a transfer: make it, await the one received, await the completion of the one made. -/
inductive Step | send (t : T) | recv (t : T) | drain (t : T)
  deriving DecidableEq

/-- What round `h` does before the plane: receive from either direction, pass on along `z`. -/
def hopSteps (h : Fin 3) (next : Option (Fin 3)) : List Step :=
  [true, false].flatMap fun f => .recv (0, f, h) :: (next.elim [] fun h' => [.send (0, f, h')])
/-- The whole quarters to the plane neighbours, -/
def directSteps (h : Fin 3) : List Step := [true, false].flatMap fun f => [.send (1, f, h), .send (2, f, h)]
/-- their arrival, and the halves forwarded; -/
def forwardSteps (h : Fin 3) : List Step :=
  [true, false].flatMap fun f => [.recv (1, f, h), .send (4, f, h), .recv (2, f, h), .send (3, f, h)]
/-- the arrival of the halves; -/
def tailSteps (h : Fin 3) : List Step := [true, false].flatMap fun f => [.recv (4, f, h), .recv (3, f, h)]
/-- the completions of what round `h` sent. -/
def drainSteps (h : Fin 3) (next : Option (Fin 3)) : List Step :=
  (next.elim [] fun h' => [.drain (0, true, h'), .drain (0, false, h')])
    ++ ([true, false].flatMap fun f => [.drain (1, f, h), .drain (2, f, h)])
    ++ ([true, false].flatMap fun f => [.drain (4, f, h), .drain (3, f, h)])

/-- Before the device stores its own block: the first hops. -/
def steps₀ : List Step := [.send (0, true, 0), .send (0, false, 0)]
/-- After: three rounds, the last arrivals, the completions. -/
def steps₁ : List Step :=
  hopSteps 0 (some 1) ++ directSteps 0 ++ forwardSteps 0
    ++ (hopSteps 1 (some 2) ++ directSteps 1 ++ forwardSteps 1)
    ++ (hopSteps 2 none ++ directSteps 2 ++ forwardSteps 2)
    ++ (tailSteps 0 ++ tailSteps 1 ++ tailSteps 2)
    ++ ([.drain (0, true, 0), .drain (0, false, 0)] ++ drainSteps 0 (some 1) ++ drainSteps 1 (some 2) ++ drainSteps 2 none)

/-! ## Progress: what has been sent, received and completed so far -/

/-- How far a device is: which transfers it has come past making, receiving and completing. -/
structure Prog₃ where
  s : T → Bool
  r : T → Bool
  d : T → Bool

def Prog₃.none : Prog₃ := ⟨fun _ => false, fun _ => false, fun _ => false⟩

/-- Mark `t`. -/
def mark (p : T → Bool) (t : T) : T → Bool := fun u => decide (u = t) || p u

/-- A marked transfer is marked, -/
theorem mark_self (p : T → Bool) (t : T) : mark p t t = true := by unfold mark; simp
/-- and no other changes. -/
theorem mark_ne (p : T → Bool) {t u : T} (h : u ≠ t) : mark p t u = p u := by unfold mark; simp [h]

/-- Coming past a step. -/
def Prog₃.step (P : Prog₃) : Step → Prog₃
  | .send t => { P with s := mark P.s t }
  | .recv t => { P with r := mark P.r t }
  | .drain t => { P with d := mark P.d t }

/-- Whether a step may come next: a transfer is made once, after the arrival it sends on; an arrival is awaited once,
    before anything sends it on, and only on a rung below everything the device has still to send; a completion is
    awaited once, after everything is sent. -/
def Prog₃.ok (P : Prog₃) : Step → Prop
  | .send t => P.s t = false ∧ P.d t = false ∧ ∀ p, dep t = some p → P.r p = true
  | .recv t => P.r t = false ∧ (∀ u, dep u = some t → P.s u = false) ∧ ∀ u, P.s u = false → rung t < rung u
  | .drain t => P.s t = true ∧ P.d t = false ∧ (∀ p, dep t = some p → P.r p = true) ∧ ∀ u, P.s u = true

instance (P : Prog₃) (st : Step) : Decidable (P.ok st) := by cases st <;> (unfold Prog₃.ok; infer_instance)

/-- Coming past a list of steps; whether each may come when it does. -/
def Prog₃.steps (P : Prog₃) : List Step → Prog₃
  | [] => P
  | st :: l => (P.step st).steps l
def Prog₃.okL (P : Prog₃) : List Step → Prop
  | [] => True
  | st :: l => P.ok st ∧ (P.step st).okL l

instance Prog₃.decOkL : (P : Prog₃) → (l : List Step) → Decidable (P.okL l)
  | _, [] => isTrue trivial
  | P, st :: l => by
    unfold Prog₃.okL
    exact @instDecidableAnd _ _ _ (Prog₃.decOkL (P.step st) l)

/-- The device's own progress at the store of its block, and at the end. -/
def mid : Prog₃ := Prog₃.none.steps steps₀
def fin : Prog₃ := mid.steps steps₁

/-- Every step comes when it may, -/
theorem ok₀ : Prog₃.none.okL steps₀ := by decide +kernel
/-- those after the store too, -/
theorem ok₁ : mid.okL steps₁ := by decide +kernel
/-- and at the end everything is sent, received and completed. -/
theorem fin_all : ∀ t : T, fin.s t = true ∧ fin.r t = true ∧ fin.d t = true := by decide +kernel

/-! ## Which piece of the gathered array comes by which transfer -/

/-- The coordinates that matter of an element: block, quarter, left or right half. -/
abbrev Key : Type := Fin 4 × Fin 4 × Fin 2

/-- Whether a piece has the elements of that key. -/
def inReg (r : Reg) (k : Key) : Bool :=
  decide (k.1 = r.1) && decide (k.2.1 = r.2.1) && (decide (r.2.2 = 0) || decide (r.2.2.val = k.2.2.val + 1))

/-- The transfer that brings device `c` the elements of a key; none for its own block. -/
def bringer (c : Dev nD) (k : Key) : Option T :=
  if k.1.val = zc c then none
  else
    let f : Bool := decide (k.1.val < zc c)
    let h : Fin 3 := ⟨(if f then zc c - k.1.val - 1 else k.1.val - zc c - 1) % 3, Nat.mod_lt _ (by decide)⟩
    if k.2.1 = qme c then some (0, f, h)
    else if k.2.1 = qx c then some (1, f, h)
    else if k.2.1 = qy c then some (2, f, h)
    else if k.2.2 = 0 then some (4, f, h) else some (3, f, h)

/-- Nothing brings a device its own block's elements; -/
theorem bringer_none : ∀ (c : Dev nD) (k : Key), bringer c k = none ↔ k.1.val = zc c := by decide +kernel
/-- every other element is brought by the one transfer in whose piece it is. -/
theorem bringer_some : ∀ (c : Dev nD) (k : Key) (t : T), bringer c k = some t ↔ (rcv t c = true ∧ inReg (lR t c) k = true) := by
  decide +kernel

end Cert.Gather
-- ==== Proof.Program.lean ====
/-
# The kernel's program as a list of transfers

The printed body is some sixteen hundred statements, cut in parts; almost all are integer arithmetic on the device's
own number. This module reads it as what it does: the barrier handshake, the two first hops, the store of the device's
own block, then the list `steps₁` of operations on transfers, each under the condition that the device has a part in
it.
-/
module

public import proofs.«01_k».proof.Proof.Mesh
public import proofs.«01_k».proof.Proof.Gen.KernelIdeal.Skeleton

@[expose] public section

set_option synthInstance.maxSize 4096
set_option maxRecDepth 65536

noncomputable section

namespace Cert.Gather

open Cert.KernelIdeal Cert.KernelIdeal.Gen Idealize.ShloMosaic Idealize.SL.Sem

variable {F : FTy → Type} [FloatOps F]

/-- The programs of a device. -/
abbrev Pg (F : FTy → Type) [FloatOps F] (α : Type) : Type 1 := Prog (TpuEff nD τ sig (Elt F) Λ₀ .tc) α

/-! ## Pieces of the two buffers -/

abbrev xM : Memref sig .tc .vmem S1024x512 .f32 := Memref.whole cc0_stg0_0
abbrev oM : Memref sig .tc .vmem S4096x512 .f32 := Memref.whole cc0_stg1_0

/-- Where a piece begins: its row and its column. -/
def offR (r : Reg) : Fin 2 → Nat := ![r.1.val * 1024 + r.2.1.val * 256, if r.2.2 = 2 then 256 else 0]
/-- Where a quarter of the device's own block begins. -/
def offX (q : Fin 4) : Fin 2 → Nat := ![q.val * 256, 0]

/-- The whole quarters lie within the gathered array, -/
theorem slab_inb : ∀ (j q : Fin 4) a, offR (j, q, 0) a + S256x512.size a ≤ S4096x512.size a := by decide +kernel
/-- so do the halves, -/
theorem half_inb : ∀ (r : Reg) a, offR r a + S256x256.size a ≤ S4096x512.size a := by decide +kernel
/-- and the quarters of a block within the block. -/
theorem ownQ_inb : ∀ (q : Fin 4) a, offX q a + S256x512.size a ≤ S1024x512.size a := by decide +kernel

/-- A whole quarter of the gathered array, half of one, and a quarter of the device's own block. -/
def slab (r : Reg) : Memref sig .tc .vmem S256x512 .f32 :=
  oM.slice (Rect.unit (s := S4096x512) (offR (r.1, r.2.1, 0)) S256x512.size (slab_inb r.1 r.2.1)) (fun _ => rfl)
def half (r : Reg) : Memref sig .tc .vmem S256x256 .f32 :=
  oM.slice (Rect.unit (s := S4096x512) (offR r) S256x256.size (half_inb r)) (fun _ => rfl)
def ownQ (q : Fin 4) : Memref sig .tc .vmem S256x512 .f32 :=
  xM.slice (Rect.unit (s := S1024x512) (offX q) S256x512.size (ownQ_inb q)) (fun _ => rfl)

/-! ## Operations -/

/-- The transfer of a piece to another device, counted on semaphore `a` here and `b` there. -/
def xfer {s : Shape} (src dst : Memref sig .tc .vmem s .f32) (c' : Dev nD) (a b : DmaSem sig) : Pg F PUnit :=
  Prog.lift (.enqueueDma src (.remote (Dev.tc c') dst (.dma a)) (.dma b) (View.wordExact_bits rfl) (View.wordExact_bits rfl)
    ⟨⟨rfl, Or.inl rfl⟩, trivial⟩)

/-- The wait for as much as a piece of that shape counts. -/
def await {s : Shape} (m : Memref sig .tc .vmem s .f32) (a : DmaSem sig) : Pg F PUnit :=
  Prog.lift (.waitDma2 a m m (View.wordExact_bits rfl) (View.wordExact_bits rfl))

/-- Making the transfer `t`. -/
def opSend (t : T) (c : Dev nD) : Pg F PUnit :=
  match t with
  | (0, f, 0) => xfer (ownQ (qme c)) (slab (sR (0, f, 0) c)) (tgt (0, f, 0) c) (dsem false (0, f, 0)) (dsem true (0, f, 0))
  | (3, f, h) => xfer (half (sR (3, f, h) c)) (half (sR (3, f, h) c)) (tgt (3, f, h) c) (dsem false (3, f, h)) (dsem true (3, f, h))
  | (4, f, h) => xfer (half (sR (4, f, h) c)) (half (sR (4, f, h) c)) (tgt (4, f, h) c) (dsem false (4, f, h)) (dsem true (4, f, h))
  | (k, f, h) => xfer (slab (sR (k, f, h) c)) (slab (sR (k, f, h) c)) (tgt (k, f, h) c) (dsem false (k, f, h)) (dsem true (k, f, h))

/-- Awaiting the semaphore of `t` on one side: what counts is the size of the piece and the buffer named. -/
def opWait (r : Bool) (t : T) : Pg F PUnit :=
  match r, t with
  | false, (0, f, 0) => await (ownQ 0) (dsem false (0, f, 0))
  | r, (3, f, h) => await (half (0, 0, 0)) (dsem r (3, f, h))
  | r, (4, f, h) => await (half (0, 0, 0)) (dsem r (4, f, h))
  | r, (k, f, h) => await (slab (0, 0, 0)) (dsem r (k, f, h))

/-- Whether a device takes a step, and what it does then. -/
def active (c : Dev nD) : Step → Bool
  | .send t => snd t c
  | .recv t => rcv t c
  | .drain t => snd t c
def op (c : Dev nD) : Step → Pg F PUnit
  | .send t => opSend t c
  | .recv t => opWait true t
  | .drain t => opWait false t
/-- Taking a step if the device has a part in it. -/
def act (c : Dev nD) (st : Step) : Pg F PUnit := if active c st = true then op c st else pure ⟨⟩

/-- The steps of a list in order, then `K`. -/
def runL {α : Type} (c : Dev nD) : List Step → Pg F α → Pg F α
  | [], K => K
  | st :: l, K => act c st >>= fun _ => runL c l K
/-- The operations of a list in order, then `K`: what `runL` does when the device has a part in all. -/
def rawL {α : Type} (c : Dev nD) : List Step → Pg F α → Pg F α
  | [], K => K
  | st :: l, K => op c st >>= fun _ => rawL c l K

/-- Running two lists is running one after the other. -/
theorem runL_append {α : Type} (c : Dev nD) (l l' : List Step) (K : Pg F α) : runL c (l ++ l') K = runL c l (runL c l' K) := by
  induction l with
  | nil => rfl
  | cons st l ih => exact congrArg (fun P => act c st >>= fun _ => P) ih

/-- What follows a run may be put at the list's end. -/
theorem runL_bind {α β : Type} (c : Dev nD) (l : List Step) (K : Pg F α) (f : α → Pg F β) : (runL c l K >>= f) = runL c l (K >>= f) := by
  induction l with
  | nil => rfl
  | cons st l ih => exact (bind_assoc _ _ _).trans (congrArg (fun P => act c st >>= fun _ => P) ih)

/-- Steps that a device all takes are taken unconditionally; -/
theorem runL_on {α : Type} (c : Dev nD) (l : List Step) (K : Pg F α) (h : ∀ st ∈ l, active c st = true) : runL c l K = rawL c l K := by
  induction l with
  | nil => rfl
  | cons st l ih =>
    have h₁ : act (F := F) c st = op c st := if_pos (h st (List.mem_cons_self ..))
    exact (congrArg (fun P => P >>= fun _ => runL c l K) h₁).trans
      (congrArg (fun P => op c st >>= fun _ => P) (ih fun s hs => h s (List.mem_cons_of_mem _ hs)))

/-- of those that it takes none of nothing is left. -/
theorem runL_off {α : Type} (c : Dev nD) (l : List Step) (K : Pg F α) (h : ∀ st ∈ l, active c st = false) : runL c l K = K := by
  induction l with
  | nil => rfl
  | cons st l ih =>
    have h₁ : act (F := F) c st = pure ⟨⟩ := if_neg (by rw [h st (List.mem_cons_self ..)]; exact Bool.false_ne_true)
    exact (congrArg (fun P => P >>= fun _ => runL c l K) h₁).trans
      ((pure_bind _ _).trans (ih fun s hs => h s (List.mem_cons_of_mem _ hs)))

/-- That a program takes the steps `l` and returns something. -/
def Does {α : Type} (c : Dev nD) (l : List Step) (p : Pg F α) : Prop := ∃ w : α, p = runL c l (pure w)
/-- That a program does the operations of `l` whatever the device's part in them, and returns something. -/
def Raw {α : Type} (c : Dev nD) (l : List Step) (p : Pg F α) : Prop := ∃ w : α, p = rawL c l (pure w)

/-- A program that only returns does no step, -/
theorem Does.ret {α : Type} {c : Dev nD} (w : α) : Does (F := F) c [] (pure w) := ⟨w, rfl⟩
/-- under a condition either. -/
theorem Raw.ret {α : Type} {c : Dev nD} (w : α) : Raw (F := F) c [] (pure w) := ⟨w, rfl⟩

/-- One program after another, -/
theorem Does.bind {α β : Type} {c : Dev nD} {l l' : List Step} {p : Pg F α} {f : α → Pg F β} (hp : Does c l p)
    (hf : ∀ w, Does c l' (f w)) : Does c (l ++ l') (p >>= f) := by
  obtain ⟨w, rfl⟩ := hp
  obtain ⟨w', hw⟩ := hf w
  exact ⟨w', by rw [runL_bind, runL_append, pure_bind, hw]⟩

/-- a conditional region of the steps `l₁`, taken when the device has a part in all of them and passed by when it has
    in none. -/
theorem Does.region {α : Type} {c : Dev nD} {l₁ l : List Step} {p : Prop} [Decidable p] {K : Pg F α} {B : p → Pg F α}
    (hc : ∀ st ∈ l₁, active c st = decide p) (hB : ∀ h, B h = rawL c l₁ K) (hK : Does c l K) :
    Does c (l₁ ++ l) (if h : p then B h else K) := by
  obtain ⟨w, rfl⟩ := hK
  refine ⟨w, ?_⟩
  rw [runL_append]
  by_cases h : p
  · rw [dif_pos h, hB h, runL_on c l₁ _ fun st hs => by rw [hc st hs]; exact decide_eq_true h]
  · rw [dif_neg h, runL_off c l₁ _ fun st hs => by rw [hc st hs]; exact decide_eq_false h]

/-- a region of one step, its condition computed from the device; -/
theorem Does.one {α : Type} {c : Dev nD} {l : List Step} (st : Step) {cond : Dev nD → BitVec 1} {K : Pg F α} {B : cond c = 1#1 → Pg F α}
    (hc : ∀ d, active d st = decide (cond d = 1#1)) (hB : ∀ h, B h = (op c st >>= fun _ => K)) (hK : Does c l K) :
    Does c (st :: l) (if h : cond c = 1#1 then B h else K) :=
  Does.region (l₁ := [st]) (fun st' hs => by rw [List.mem_singleton.1 hs]; exact hc c) hB hK

/-- a region of two waits. -/
theorem Does.two {α : Type} {c : Dev nD} {l : List Step} (s₁ s₂ : Step) {cond : Dev nD → BitVec 1} {K : Pg F α} {B : cond c = 1#1 → Pg F α}
    (hc : ∀ d, ∀ st ∈ [s₁, s₂], active d st = decide (cond d = 1#1)) (hB : ∀ h, B h = rawL c [s₁, s₂] K) (hK : Does c l K) :
    Does c (s₁ :: s₂ :: l) (if h : cond c = 1#1 then B h else K) :=
  Does.region (l₁ := [s₁, s₂]) (hc c) hB hK

/-- The kernel's form of a transfer within the gathered array is ours, for a whole quarter -/
theorem xfer_slab {off : Fin 2 → Nat} {inb : ∀ a, off a + S256x512.size a ≤ S4096x512.size a} {dv : Nat} {hdv : dv < nD} {a b : DmaSem sig}
    {hs : ∀ a : Fin 2, _} {hs' : ∀ a : Fin 2, _} {h₁ h₂ h₃} (r : Reg) (c' : Dev nD) (ho : off = offR (r.1, r.2.1, 0)) (hd : dv = c'.val) :
    (Prog.lift (.enqueueDma (oM.slice (Rect.unit (s := S4096x512) off S256x512.size inb) hs)
      (.remote (Dev.tc (⟨dv, hdv⟩ : Dev nD)) (oM.slice (Rect.unit (s := S4096x512) off S256x512.size inb) hs') (.dma a)) (.dma b) h₁ h₂ h₃) : Pg F PUnit)
      = xfer (slab r) (slab r) c' a b := by
  subst ho hd; rfl
/-- and for half of one; -/
theorem xfer_half {off : Fin 2 → Nat} {inb : ∀ a, off a + S256x256.size a ≤ S4096x512.size a} {dv : Nat} {hdv : dv < nD} {a b : DmaSem sig}
    {hs : ∀ a : Fin 2, _} {hs' : ∀ a : Fin 2, _} {h₁ h₂ h₃} (r : Reg) (c' : Dev nD) (ho : off = offR r) (hd : dv = c'.val) :
    (Prog.lift (.enqueueDma (oM.slice (Rect.unit (s := S4096x512) off S256x256.size inb) hs)
      (.remote (Dev.tc (⟨dv, hdv⟩ : Dev nD)) (oM.slice (Rect.unit (s := S4096x512) off S256x256.size inb) hs') (.dma a)) (.dma b) h₁ h₂ h₃) : Pg F PUnit)
      = xfer (half r) (half r) c' a b := by
  subst ho hd; rfl
/-- and the first hop, from the device's own block. -/
theorem xfer_own {off off' : Fin 2 → Nat} {inb : ∀ a, off a + S256x512.size a ≤ S1024x512.size a}
    {inb' : ∀ a, off' a + S256x512.size a ≤ S4096x512.size a} {dv : Nat} {hdv : dv < nD} {a b : DmaSem sig}
    {hs : ∀ a : Fin 2, _} {hs' : ∀ a : Fin 2, _} {h₁ h₂ h₃} (q : Fin 4) (r : Reg) (c' : Dev nD) (ho : off = offX q) (ho' : off' = offR (r.1, r.2.1, 0))
    (hd : dv = c'.val) :
    (Prog.lift (.enqueueDma (xM.slice (Rect.unit (s := S1024x512) off S256x512.size inb) hs)
      (.remote (Dev.tc (⟨dv, hdv⟩ : Dev nD)) (oM.slice (Rect.unit (s := S4096x512) off' S256x512.size inb') hs') (.dma a)) (.dma b) h₁ h₂ h₃) : Pg F PUnit)
      = xfer (ownQ q) (slab r) c' a b := by
  subst ho ho' hd; rfl

/-- That a computed condition, place and addressee are those of the transfer `t`. -/
def Sends (t : T) (w : Fin 3) (cond : Dev nD → BitVec 1) (off : Dev nD → Fin 2 → Nat) (dv : Dev nD → Nat) : Prop :=
  ∀ d, snd t d = decide (cond d = 1#1) ∧ (cond d = 1#1 → off d = offR ((sR t d).1, (sR t d).2.1, w) ∧ dv d = (tgt t d).val)

instance (t : T) (w : Fin 3) (cond : Dev nD → BitVec 1) (off : Dev nD → Fin 2 → Nat) (dv : Dev nD → Nat) : Decidable (Sends t w cond off dv) := by
  unfold Sends; infer_instance

/-- A region that sends a whole quarter within the gathered array. -/
theorem Does.send {α : Type} {c : Dev nD} {l : List Step} (t : T) {cond : Dev nD → BitVec 1} {off : Dev nD → Fin 2 → Nat} {dv : Dev nD → Nat}
    {inb : cond c = 1#1 → ∀ a, off c a + S256x512.size a ≤ S4096x512.size a} {hdv : cond c = 1#1 → dv c < nD} {a b : DmaSem sig} {K : Pg F α} (H : Sends t 0 cond off dv)
    (hop : (opSend t c : Pg F PUnit) = xfer (slab (sR t c)) (slab (sR t c)) (tgt t c) a b) (hK : Does c l K) :
    Does c (.send t :: l) (if h : cond c = 1#1 then
      (Prog.lift (.enqueueDma (oM.slice (Rect.unit (s := S4096x512) (off c) S256x512.size (inb h)) (fun _ => rfl))
        (.remote (Dev.tc (⟨dv c, hdv h⟩ : Dev nD)) (oM.slice (Rect.unit (s := S4096x512) (off c) S256x512.size (inb h)) (fun _ => rfl)) (.dma a)) (.dma b)
        (View.wordExact_bits rfl) (View.wordExact_bits rfl) ⟨⟨rfl, Or.inl rfl⟩, trivial⟩) : Pg F PUnit) >>= fun _ => K else K) :=
  Does.one _ (fun d => (H d).1) (fun h => congrArg (fun P : Pg F PUnit => P >>= fun _ => K)
    ((xfer_slab (sR t c) (tgt t c) ((H c).2 h).1 ((H c).2 h).2).trans hop.symm)) hK

/-- A wait for a whole quarter counts what a whole quarter counts, -/
theorem await_slab {off : Fin 2 → Nat} {inb : ∀ a, off a + S256x512.size a ≤ S4096x512.size a} {src : Memref sig .tc .vmem S256x512 .f32} {a : DmaSem sig} :
    (Prog.lift (.waitDma2 a src (oM.slice (Rect.unit (s := S4096x512) off S256x512.size inb) (fun _ => rfl)) (View.wordExact_bits rfl)
      (View.wordExact_bits rfl)) : Pg F PUnit) = await (slab (0, 0, 0)) a := rfl
/-- a wait for a half what a half counts. -/
theorem await_half {off : Fin 2 → Nat} {inb : ∀ a, off a + S256x256.size a ≤ S4096x512.size a} {src : Memref sig .tc .vmem S256x256 .f32} {a : DmaSem sig} :
    (Prog.lift (.waitDma2 a src (oM.slice (Rect.unit (s := S4096x512) off S256x256.size inb) (fun _ => rfl)) (View.wordExact_bits rfl)
      (View.wordExact_bits rfl)) : Pg F PUnit) = await (half (0, 0, 0)) a := rfl

/-- A region that awaits a whole quarter. -/
theorem Does.waitW {α : Type} {c : Dev nD} {l : List Step} (st : Step) {cond : Dev nD → BitVec 1} {off : Dev nD → Fin 2 → Nat}
    {inb : cond c = 1#1 → ∀ a, off c a + S256x512.size a ≤ S4096x512.size a} {src : cond c = 1#1 → Memref sig .tc .vmem S256x512 .f32}
    {a : DmaSem sig} {K : Pg F α} (hc : ∀ d, active d st = decide (cond d = 1#1)) (hop : (op c st : Pg F PUnit) = await (slab (0, 0, 0)) a)
    (hK : Does c l K) :
    Does c (st :: l) (if h : cond c = 1#1 then
      (Prog.lift (.waitDma2 a (src h) (oM.slice (Rect.unit (s := S4096x512) (off c) S256x512.size (inb h)) (fun _ => rfl)) (View.wordExact_bits rfl)
        (View.wordExact_bits rfl)) : Pg F PUnit) >>= fun _ => K else K) :=
  Does.one _ hc (fun _ => congrArg (fun P : Pg F PUnit => P >>= fun _ => K) (await_slab.trans hop.symm)) hK

/-- A region that awaits half of one. -/
theorem Does.waitH {α : Type} {c : Dev nD} {l : List Step} (st : Step) {cond : Dev nD → BitVec 1} {off : Dev nD → Fin 2 → Nat}
    {inb : cond c = 1#1 → ∀ a, off c a + S256x256.size a ≤ S4096x512.size a} {src : cond c = 1#1 → Memref sig .tc .vmem S256x256 .f32}
    {a : DmaSem sig} {K : Pg F α} (hc : ∀ d, active d st = decide (cond d = 1#1)) (hop : (op c st : Pg F PUnit) = await (half (0, 0, 0)) a)
    (hK : Does c l K) :
    Does c (st :: l) (if h : cond c = 1#1 then
      (Prog.lift (.waitDma2 a (src h) (oM.slice (Rect.unit (s := S4096x512) (off c) S256x256.size (inb h)) (fun _ => rfl)) (View.wordExact_bits rfl)
        (View.wordExact_bits rfl)) : Pg F PUnit) >>= fun _ => K else K) :=
  Does.one _ hc (fun _ => congrArg (fun P : Pg F PUnit => P >>= fun _ => K) (await_half.trans hop.symm)) hK

/-- A region that awaits a whole quarter of the device's own block. -/
theorem Does.waitX {α : Type} {c : Dev nD} {l : List Step} (st : Step) {cond : Dev nD → BitVec 1} {off : Dev nD → Fin 2 → Nat}
    {inb : cond c = 1#1 → ∀ a, off c a + S256x512.size a ≤ S1024x512.size a} {src : cond c = 1#1 → Memref sig .tc .vmem S256x512 .f32}
    {a : DmaSem sig} {K : Pg F α} (hc : ∀ d, active d st = decide (cond d = 1#1)) (hop : (op c st : Pg F PUnit) = await (ownQ 0) a)
    (hK : Does c l K) :
    Does c (st :: l) (if h : cond c = 1#1 then
      (Prog.lift (.waitDma2 a (src h) (xM.slice (Rect.unit (s := S1024x512) (off c) S256x512.size (inb h)) (fun _ => rfl)) (View.wordExact_bits rfl)
        (View.wordExact_bits rfl)) : Pg F PUnit) >>= fun _ => K else K) :=
  Does.one _ hc (fun _ => congrArg (fun P : Pg F PUnit => P >>= fun _ => K) hop.symm) hK

/-- A region that awaits two halves. -/
theorem Does.tail {α : Type} {c : Dev nD} {l : List Step} (s₁ s₂ : Step) {cond : Dev nD → BitVec 1} {off off' : Dev nD → Fin 2 → Nat}
    {inb : cond c = 1#1 → ∀ a, off c a + S256x256.size a ≤ S4096x512.size a} {src : cond c = 1#1 → Memref sig .tc .vmem S256x256 .f32}
    {inb' : cond c = 1#1 → ∀ a, off' c a + S256x256.size a ≤ S4096x512.size a} {src' : cond c = 1#1 → Memref sig .tc .vmem S256x256 .f32}
    {a a' : DmaSem sig} {K : Pg F α} (hc : ∀ d, ∀ st ∈ [s₁, s₂], active d st = decide (cond d = 1#1))
    (hop : (op c s₁ : Pg F PUnit) = await (half (0, 0, 0)) a) (hop' : (op c s₂ : Pg F PUnit) = await (half (0, 0, 0)) a') (hK : Does c l K) :
    Does c (s₁ :: s₂ :: l) (if h : cond c = 1#1 then
      (Prog.lift (.waitDma2 a (src h) (oM.slice (Rect.unit (s := S4096x512) (off c) S256x256.size (inb h)) (fun _ => rfl)) (View.wordExact_bits rfl)
        (View.wordExact_bits rfl)) : Pg F PUnit) >>= fun _ =>
      (Prog.lift (.waitDma2 a' (src' h) (oM.slice (Rect.unit (s := S4096x512) (off' c) S256x256.size (inb' h)) (fun _ => rfl)) (View.wordExact_bits rfl)
        (View.wordExact_bits rfl)) : Pg F PUnit) >>= fun _ => K else K) :=
  Does.two s₁ s₂ hc (fun _ => by rw [await_half, await_half, ← hop, ← hop']; rfl) hK

/-- The head of a forwarding region: await one quarter, pass half of it on, await the other. -/
theorem Raw.forward {c : Dev nD} (f : Bool) (h : Fin 3) {cond : Dev nD → BitVec 1} {o₁ o₂ o₃ : Dev nD → Fin 2 → Nat} {dv : Dev nD → Nat}
    {i₁ : ∀ a, o₁ c a + S256x512.size a ≤ S4096x512.size a} {i₂ : ∀ a, o₂ c a + S256x256.size a ≤ S4096x512.size a}
    {i₃ : ∀ a, o₃ c a + S256x512.size a ≤ S4096x512.size a} {hdv : dv c < nD} {m₁ m₃ : Memref sig .tc .vmem S256x512 .f32}
    {a₁ a b a₃ : DmaSem sig} {w : BitVec 32} (hc : cond c = 1#1) (H : Sends (4, f, h) 1 cond o₂ dv)
    (h₁ : (op c (.recv (1, f, h)) : Pg F PUnit) = await (slab (0, 0, 0)) a₁)
    (h₂ : (op c (.send (4, f, h)) : Pg F PUnit) = xfer (half (sR (4, f, h) c)) (half (sR (4, f, h) c)) (tgt (4, f, h) c) a b)
    (h₃ : (op c (.recv (2, f, h)) : Pg F PUnit) = await (slab (0, 0, 0)) a₃) :
    Raw c [.recv (1, f, h), .send (4, f, h), .recv (2, f, h)]
      ((Prog.lift (.waitDma2 a₁ m₁ (oM.slice (Rect.unit (s := S4096x512) (o₁ c) S256x512.size i₁) (fun _ => rfl)) (View.wordExact_bits rfl)
        (View.wordExact_bits rfl)) : Pg F PUnit) >>= fun _ =>
      (Prog.lift (.enqueueDma (oM.slice (Rect.unit (s := S4096x512) (o₂ c) S256x256.size i₂) (fun _ => rfl))
        (.remote (Dev.tc (⟨dv c, hdv⟩ : Dev nD)) (oM.slice (Rect.unit (s := S4096x512) (o₂ c) S256x256.size i₂) (fun _ => rfl)) (.dma a)) (.dma b)
        (View.wordExact_bits rfl) (View.wordExact_bits rfl) ⟨⟨rfl, Or.inl rfl⟩, trivial⟩) : Pg F PUnit) >>= fun _ =>
      (Prog.lift (.waitDma2 a₃ m₃ (oM.slice (Rect.unit (s := S4096x512) (o₃ c) S256x512.size i₃) (fun _ => rfl)) (View.wordExact_bits rfl)
        (View.wordExact_bits rfl)) : Pg F PUnit) >>= fun _ => pure w) := by
  refine ⟨w, ?_⟩
  rw [await_slab, await_slab, ← h₁, ← h₃]
  have hx := xfer_half (F := F) (inb := i₂) (hdv := hdv) (a := a) (b := b) (sR (4, f, h) c) (tgt (4, f, h) c) (hs := fun _ => rfl) (hs' := fun _ => rfl)
    (h₁ := View.wordExact_bits rfl) (h₂ := View.wordExact_bits rfl) (h₃ := ⟨⟨rfl, Or.inl rfl⟩, trivial⟩) ((H c).2 hc).1 ((H c).2 hc).2
  rw [hx, ← h₂]
  rfl

/-- A forwarding region: its head, then half of the other quarter passed on. -/
theorem Does.forward {α β : Type} {c : Dev nD} {l : List Step} (f : Bool) (h : Fin 3) {cond : Dev nD → BitVec 1} {off : Dev nD → Fin 2 → Nat}
    {dv : Dev nD → Nat} {inb : cond c = 1#1 → ∀ a, off c a + S256x256.size a ≤ S4096x512.size a} {hdv : cond c = 1#1 → dv c < nD}
    {a b : DmaSem sig} {P : cond c = 1#1 → Pg F β} {K : Pg F α}
    (hc : ∀ d, ∀ st ∈ [Step.recv (1, f, h), .send (4, f, h), .recv (2, f, h), .send (3, f, h)], active d st = decide (cond d = 1#1))
    (H : Sends (3, f, h) 2 cond off dv) (hP : ∀ hh, Raw c [.recv (1, f, h), .send (4, f, h), .recv (2, f, h)] (P hh))
    (hop : (op c (.send (3, f, h)) : Pg F PUnit) = xfer (half (sR (3, f, h) c)) (half (sR (3, f, h) c)) (tgt (3, f, h) c) a b) (hK : Does c l K) :
    Does c (.recv (1, f, h) :: .send (4, f, h) :: .recv (2, f, h) :: .send (3, f, h) :: l) (if h : cond c = 1#1 then
      P h >>= fun _ => (Prog.lift (.enqueueDma (oM.slice (Rect.unit (s := S4096x512) (off c) S256x256.size (inb h)) (fun _ => rfl))
        (.remote (Dev.tc (⟨dv c, hdv h⟩ : Dev nD)) (oM.slice (Rect.unit (s := S4096x512) (off c) S256x256.size (inb h)) (fun _ => rfl)) (.dma a)) (.dma b)
        (View.wordExact_bits rfl) (View.wordExact_bits rfl) ⟨⟨rfl, Or.inl rfl⟩, trivial⟩) : Pg F PUnit) >>= fun _ => K else K) := by
  refine Does.region (l₁ := [.recv (1, f, h), .send (4, f, h), .recv (2, f, h), .send (3, f, h)]) (hc c) (fun hh => ?_) hK
  obtain ⟨w, hw⟩ := hP hh
  have hx := xfer_half (F := F) (inb := inb hh) (hdv := hdv hh) (a := a) (b := b) (sR (3, f, h) c) (tgt (3, f, h) c) (hs := fun _ => rfl)
    (hs' := fun _ => rfl) (h₁ := View.wordExact_bits rfl) (h₂ := View.wordExact_bits rfl) (h₃ := ⟨⟨rfl, Or.inl rfl⟩, trivial⟩)
    ((H c).2 hh).1 ((H c).2 hh).2
  rw [hw, hx, ← hop]
  simp only [rawL, bind_assoc, pure_bind]

end Cert.Gather

end
-- ==== Proof.Mem.lean ====
/-
# Pieces of the gathered array and what they hold

Where the elements of a piece lie, what the gathered array holds at the end, and that a transfer writes just that.
-/
module

public import proofs.«01_k».proof.Proof.Program
public import Idealize.ShloMosaic.Lib.Pointwise.Index
public import Idealize.ShloMosaic.Lib.Pipeline.Value

@[expose] public section

set_option synthInstance.maxSize 4096
set_option maxRecDepth 65536

noncomputable section

namespace Cert.Gather

open Cert.KernelIdeal Cert.KernelIdeal.Gen Idealize.ShloMosaic Idealize.SL.Sem

variable {F : FTy → Type} [FloatOps F]

/-! ## Elements -/

/-- What a block of `x` and what the gathered array may hold. -/
abbrev XC (F : FTy → Type) : Type := (cc0_stg0_0 : Ref sig .tc).ty.Contents (Elt F)
abbrev OC (F : FTy → Type) : Type := (cc0_stg1_0 : Ref sig .tc).ty.Contents (Elt F)

/-- The elements of the gathered array, and of a block. -/
abbrev OI : Type := S4096x512.Idx
abbrev XI : Type := S1024x512.Idx

/-- An element's row and column. -/
abbrev row (i : OI) : Nat := (i 0).val
abbrev col (i : OI) : Nat := (i 1).val
abbrev xrow (i : XI) : Nat := (i 0).val
abbrev xcol (i : XI) : Nat := (i 1).val
/-- The gathered array has 4096 rows -/
theorem row_lt (i : OI) : (i 0).val < 4096 := (i 0).isLt
/-- and 512 columns. -/
theorem col_lt (i : OI) : (i 1).val < 512 := (i 1).isLt

/-- The key of an element: its block, quarter and half. -/
def kOf (i : OI) : Key :=
  (⟨(i 0).val / 1024, by have := row_lt i; omega⟩, ⟨(i 0).val % 1024 / 256, by omega⟩, ⟨(i 1).val / 256, by have := col_lt i; omega⟩)
/-- The same place within the block. -/
def inBlock (i : OI) : XI := ix2 (n0 := 1024) (n1 := 512) ⟨(i 0).val % 1024, Nat.mod_lt _ (by decide)⟩ ⟨(i 1).val, col_lt i⟩
/-- The device that first sends the elements of a key: the one of that quarter's column at that block's height. -/
def source (k : Key) : Dev nD := ⟨k.2.1.val * 4 + k.1.val, by show _ < 16; omega⟩

/-- What comes by transfers: every element as its `source` had it. -/
def gat (X : Dev nD → XC F) : OC F := fun i => X (source (kOf i)) (inBlock i)
/-- What the gathered array of device `c` holds at the end: its own block as it had it, the rest as it came. -/
def outAt (X : Dev nD → XC F) (c : Dev nD) : OC F := fun i => if (kOf i).1.val = zc c then X c (inBlock i) else gat X i

/-- The elements of a piece; of a device's own block; of its own quarter, in its block. -/
def rset (r : Reg) : Finset OI := Finset.univ.filter fun i => inReg r (kOf i) = true
def ownRows (c : Dev nD) : Finset OI := Finset.univ.filter fun i => (kOf i).1.val = zc c
def xset (c : Dev nD) : Finset XI := (Rect.unit (s := S1024x512) (offX (qme c)) S256x512.size (ownQ_inb (qme c))).set

/-- An element is in a piece when its key is; -/
theorem mem_rset {r : Reg} {i : OI} : i ∈ rset r ↔ inReg r (kOf i) = true := by
  unfold rset; rw [Finset.mem_filter]; exact ⟨fun h => h.2, fun h => ⟨Finset.mem_univ _, h⟩⟩
/-- it is in a device's own rows when its block is at the device's height. -/
theorem mem_ownRows {c : Dev nD} {i : OI} : i ∈ ownRows c ↔ (kOf i).1.val = zc c := by
  unfold ownRows; rw [Finset.mem_filter]; exact ⟨fun h => h.2, fun h => ⟨Finset.mem_univ _, h⟩⟩

/-! ## The views the kernel names -/

/-- A whole quarter by rows and columns; -/
theorem mem_slab_set (r : Reg) (i : OI) : i ∈ rset (r.1, r.2.1, 0) ↔ ∀ a, offR (r.1, r.2.1, 0) a ≤ i a ∧ (i a : Nat) < offR (r.1, r.2.1, 0) a + S256x512.size a := by
  rw [mem_rset]
  have h0 := row_lt i; have h1 := col_lt i
  have hj := r.1.isLt; have hq := r.2.1.isLt
  constructor
  · intro h
    simp only [inReg, kOf, Bool.and_eq_true, Bool.or_eq_true, decide_eq_true_eq, Fin.ext_iff] at h
    intro a
    match a with
    | ⟨0, _⟩ =>
      show r.1.val * 1024 + r.2.1.val * 256 ≤ (i 0).val ∧ (i 0).val < r.1.val * 1024 + r.2.1.val * 256 + 256
      omega
    | ⟨1, _⟩ => exact ⟨Nat.zero_le _, by show (i 1).val < 0 + 512; omega⟩
  · intro h
    have h' : r.1.val * 1024 + r.2.1.val * 256 ≤ (i 0).val ∧ (i 0).val < r.1.val * 1024 + r.2.1.val * 256 + 256 := h 0
    simp only [inReg, kOf, Bool.and_eq_true, Bool.or_eq_true, decide_eq_true_eq, Fin.ext_iff]
    refine ⟨⟨?_, ?_⟩, Or.inl trivial⟩ <;> omega

/-- a half of one by rows and columns. -/
theorem mem_half_set (r : Reg) (hw : r.2.2 ≠ 0) (i : OI) : i ∈ rset r ↔ ∀ a, offR r a ≤ i a ∧ (i a : Nat) < offR r a + S256x256.size a := by
  rw [mem_rset]
  obtain ⟨j, q, w⟩ := r
  have h0 := row_lt i; have h1 := col_lt i
  have hj := j.isLt; have hq := q.isLt
  have hw' : w = 1 ∨ w = 2 := (by decide : ∀ w : Fin 3, w ≠ 0 → w = 1 ∨ w = 2) w hw
  constructor
  · intro h
    simp only [inReg, kOf, Bool.and_eq_true, Bool.or_eq_true, decide_eq_true_eq, Fin.ext_iff] at h
    intro a
    match a with
    | ⟨0, _⟩ =>
      show j.val * 1024 + q.val * 256 ≤ (i 0).val ∧ (i 0).val < j.val * 1024 + q.val * 256 + 256
      omega
    | ⟨1, _⟩ =>
      show (if w = 2 then 256 else 0) ≤ (i 1).val ∧ (i 1).val < (if w = 2 then 256 else 0) + 256
      rcases hw' with rfl | rfl
      · rw [if_neg (by decide)]; simp at h; omega
      · rw [if_pos rfl]; simp at h; omega
  · intro h
    have h' : j.val * 1024 + q.val * 256 ≤ (i 0).val ∧ (i 0).val < j.val * 1024 + q.val * 256 + 256 := h 0
    have h'' : (if w = 2 then 256 else 0) ≤ (i 1).val ∧ (i 1).val < (if w = 2 then 256 else 0) + 256 := h 1
    simp only [inReg, kOf, Bool.and_eq_true, Bool.or_eq_true, decide_eq_true_eq, Fin.ext_iff]
    refine ⟨⟨?_, ?_⟩, Or.inr ?_⟩
    · omega
    · omega
    · rcases hw' with rfl | rfl
      · rw [if_neg (by decide)] at h''; exact decide_eq_true (show 1 = (i 1).val / 256 + 1 by omega)
      · rw [if_pos rfl] at h''; exact decide_eq_true (show 2 = (i 1).val / 256 + 1 by omega)

/-- The view of a whole quarter names that piece, -/
theorem slab_set (r : Reg) : (slab r).view.set = rset (r.1, r.2.1, 0) := by
  show ((View.whole cc0_stg1_0).slice _).set = _
  rw [View.set_slice_whole]
  ext i
  rw [mem_slab_set]
  exact Rect.mem_set_unit
/-- the view of a half that one, -/
theorem half_set (r : Reg) (hw : r.2.2 ≠ 0) : (half r).view.set = rset r := by
  show ((View.whole cc0_stg1_0).slice _).set = _
  rw [View.set_slice_whole]
  ext i
  rw [mem_half_set r hw]
  exact Rect.mem_set_unit
/-- and the view of a quarter of the block that quarter. -/
theorem ownQ_set (c : Dev nD) : (ownQ (qme c)).view.set = xset c := by
  show ((View.whole cc0_stg0_0).slice _).set = _
  rw [View.set_slice_whole]
  rfl

/-! ## What a transfer writes -/

/-- Reading a piece of the gathered array at one device and writing it at another keeps what the elements hold: a whole
    quarter, -/
theorem slab_write (X : Dev nD → XC F) (r : Reg) (fd : OC F) (i : OI) (hi : i ∈ rset (r.1, r.2.1, 0)) :
    (slab r).view.write (Elt F) fd ((slab r).view.read (Elt F) (gat X)) Finset.univ i = gat X i := by
  refine (congrFun (View.write_read_eq_piecewise (v := (slab r).view) fd (gat X) Finset.univ) i).trans ?_
  exact Finset.piecewise_eq_of_mem _ _ _ (by show i ∈ (slab r).view.set; rw [slab_set]; exact hi)
/-- a half; -/
theorem half_write (X : Dev nD → XC F) (r : Reg) (hw : r.2.2 ≠ 0) (fd : OC F) (i : OI) (hi : i ∈ rset r) :
    (half r).view.write (Elt F) fd ((half r).view.read (Elt F) (gat X)) Finset.univ i = gat X i := by
  refine (congrFun (View.write_read_eq_piecewise (v := (half r).view) fd (gat X) Finset.univ) i).trans ?_
  exact Finset.piecewise_eq_of_mem _ _ _ (by show i ∈ (half r).view.set; rw [half_set r hw]; exact hi)
/-- and a quarter of a device's own block becomes the same quarter of the gathered array. -/
theorem own_write (X : Dev nD → XC F) (c : Dev nD) (r : Reg) (hr : r.1.val = zc c ∧ r.2.1 = qme c) (fd : OC F) (i : OI)
    (hi : i ∈ rset (r.1, r.2.1, 0)) :
    (slab r).view.write (Elt F) fd ((ownQ (qme c)).view.read (Elt F) (X c)) Finset.univ i = gat X i := by
  rw [← slab_set] at hi
  obtain ⟨y, -, rfl⟩ := Finset.mem_map.mp hi
  refine (View.write_emb_of_mem (v := (slab r).view) _ _ (Finset.mem_univ y)).trans ?_
  show X c ((ownQ (qme c)).view.emb y) = X (source (kOf ((slab r).view.emb y))) (inBlock ((slab r).view.emb y))
  have e0 : row ((slab r).view.emb y) = r.1.val * 1024 + r.2.1.val * 256 + 1 * (y 0).val := rfl
  have e1 : col ((slab r).view.emb y) = 0 + 1 * (y 1).val := rfl
  have f0 : xrow ((ownQ (qme c)).view.emb y) = (qme c).val * 256 + 1 * (y 0).val := rfl
  have f1 : xcol ((ownQ (qme c)).view.emb y) = 0 + 1 * (y 1).val := rfl
  have hy : (y 0).val < 256 := (y 0).isLt
  have hq := (qme c).isLt
  have hj := r.1.isLt
  have hs : source (kOf ((slab r).view.emb y)) = c := by
    apply Fin.ext
    show row ((slab r).view.emb y) % 1024 / 256 * 4 + row ((slab r).view.emb y) / 1024 = c.val
    rw [e0, hr.2]
    have hz : r.1.val = c.val % 4 := hr.1
    have hqm : (qme c).val = c.val / 4 := rfl
    have hc : c.val < 16 := c.isLt
    omega
  rw [hs]
  refine congrArg (X c) (funext fun a => Fin.ext ?_)
  match a with
  | ⟨0, _⟩ =>
    show xrow ((ownQ (qme c)).view.emb y) = row ((slab r).view.emb y) % 1024
    rw [e0, f0, hr.2]; omega
  | ⟨1, _⟩ =>
    show xcol ((ownQ (qme c)).view.emb y) = col ((slab r).view.emb y)
    rw [e1, f1]

/-! ## The store of the device's own block -/

/-- The rows the device stores its own block to. -/
abbrev ownR (c : Dev nD) : Rect S4096x512 := Rect.unit (s := S4096x512) (k0_off5 c) S1024x512.size (k0_off5_inb c)

/-- Where a device stores its own rows. -/
theorem k0_off5_val : ∀ c : Dev nD, k0_off5 c = ![zc c * 1024, 0] := by decide +kernel

/-- The store writes the device's own rows. -/
theorem ownR_set (c : Dev nD) : ((oM : Memref sig .tc .vmem S4096x512 .f32).access (ownR c)).set = ownRows c := by
  show ((View.whole cc0_stg1_0).slice (ownR c)).set = _
  rw [View.set_slice_whole]
  ext i
  rw [mem_ownRows]
  refine Rect.mem_set_unit.trans ?_
  rw [k0_off5_val]
  have h0 := row_lt i; have h1 := col_lt i
  constructor
  · intro h
    have h' : zc c * 1024 ≤ (i 0).val ∧ (i 0).val < zc c * 1024 + 1024 := h 0
    show (i 0).val / 1024 = zc c
    omega
  · intro h a
    have h : (i 0).val / 1024 = zc c := h
    match a with
    | ⟨0, _⟩ => show zc c * 1024 ≤ (i 0).val ∧ (i 0).val < zc c * 1024 + 1024; omega
    | ⟨1, _⟩ => exact ⟨Nat.zero_le _, by show (i 1).val < 0 + 512; omega⟩

/-- The store leaves the device's own rows as they are to end. -/
theorem keep_write (X : Dev nD → XC F) (c : Dev nD) (f : OC F) (i : OI) (hi : i ∈ ownRows c) :
    ((oM : Memref sig .tc .vmem S4096x512 .f32).access (ownR c) : View sig .tc _ _ _).write (Elt F) f (k0_pay1 (X c)) Finset.univ i = outAt X c i := by
  have hz := mem_ownRows.1 hi
  rw [← ownR_set] at hi
  obtain ⟨y, -, rfl⟩ := Finset.mem_map.mp hi
  refine (View.write_emb_of_mem _ _ (Finset.mem_univ y)).trans ?_
  refine Eq.trans ?_ (if_pos hz).symm
  show k0_pay1 (X c) y = X c _
  have e0 : row (((oM : Memref sig .tc .vmem S4096x512 .f32).access (ownR c)).emb y) = k0_off5 c 0 + 1 * (y 0).val := rfl
  have e1 : col (((oM : Memref sig .tc .vmem S4096x512 .f32).access (ownR c)).emb y) = k0_off5 c 1 + 1 * (y 1).val := rfl
  rw [k0_off5_val] at e0 e1
  have hy : (y 0).val < 1024 := (y 0).isLt
  refine (congrFun (shapeCast_self (X c) shapeCasts_S1024x512_S1024x512) y).trans ?_
  refine congrArg (X c) (funext fun a => Fin.ext ?_)
  match a with
  | ⟨0, _⟩ =>
    show (y 0).val = row (((oM : Memref sig .tc .vmem S4096x512 .f32).access (ownR c)).emb y) % 1024
    rw [e0]; show (y 0).val = (zc c * 1024 + 1 * (y 0).val) % 1024; omega
  | ⟨1, _⟩ =>
    show (y 1).val = col (((oM : Memref sig .tc .vmem S4096x512 .f32).access (ownR c)).emb y)
    rw [e1]; show (y 1).val = 0 + 1 * (y 1).val; omega

/-! ## The gathered array in its pieces -/

/-- The pieces a device receives, and its own rows, are all of the gathered array, each element once. -/
theorem pieces_cover (c : Dev nD) :
    (Finset.univ : Finset OI) = ownRows c ∪ (Finset.univ.filter fun t : T => rcv t c = true).biUnion fun t => rset (lR t c) := by
  ext i
  simp only [Finset.mem_univ, Finset.mem_union, Finset.mem_biUnion, Finset.mem_filter, true_and, true_iff, mem_ownRows, mem_rset]
  cases h : bringer c (kOf i) with
  | none => exact Or.inl ((bringer_none _ _).1 h)
  | some t => exact Or.inr ⟨t, (bringer_some _ _ _).1 h⟩
/-- No transfer brings any of a device's own rows, -/
theorem pieces_own (c : Dev nD) :
    Disjoint (ownRows c) ((Finset.univ.filter fun t : T => rcv t c = true).biUnion fun t => rset (lR t c)) := by
  rw [Finset.disjoint_left]
  intro i hi h
  simp only [Finset.mem_biUnion, Finset.mem_filter, Finset.mem_univ, true_and, mem_rset] at h
  obtain ⟨t, h⟩ := h
  have h₁ := (bringer_some _ _ _).2 h
  rw [(bringer_none c (kOf i)).2 (mem_ownRows.1 hi)] at h₁
  cases h₁
/-- and no two transfers to a device bring the same element. -/
theorem pieces_disjoint (c : Dev nD) (t : T) (ht : rcv t c = true) (u : T) (hu : rcv u c = true) (h : t ≠ u) :
    Disjoint (rset (lR t c)) (rset (lR u c)) := by
  rw [Finset.disjoint_left]
  intro i hi hi'
  have h₁ := (bringer_some _ _ _).2 ⟨ht, mem_rset.1 hi⟩
  rw [(bringer_some _ _ _).2 ⟨hu, mem_rset.1 hi'⟩] at h₁
  cases h₁
  exact h rfl
/-- Off its own rows the gathered array ends as it came. -/
theorem outAt_piece (X : Dev nD → XC F) (c : Dev nD) (t : T) (ht : rcv t c = true) (i : OI) (hi : i ∈ rset (lR t c)) : outAt X c i = gat X i := by
  unfold outAt
  rw [if_neg]
  intro h
  have h₁ := (bringer_some _ _ _).2 ⟨ht, mem_rset.1 hi⟩
  rw [(bringer_none c (kOf i)).2 h] at h₁
  cases h₁

/-- A quarter is its two halves. -/
theorem halves (j q : Fin 4) : rset (j, q, 0) = rset (j, q, 1) ∪ rset (j, q, 2) := by
  ext i
  rw [Finset.mem_union, mem_rset, mem_rset, mem_rset]
  generalize kOf i = k
  revert j q k; decide +kernel
/-- The two halves of a quarter have no element in common. -/
theorem halves_disjoint (j q : Fin 4) : Disjoint (rset (j, q, 1)) (rset (j, q, 2)) := by
  rw [Finset.disjoint_left]
  intro i
  rw [mem_rset, mem_rset]
  generalize kOf i = k
  revert j q k; decide +kernel

end Cert.Gather

end
-- ==== Proof.Parts.lean ====
/-
# The parts of the body, one by one
-/
module

public import proofs.«01_k».proof.Proof.Program

@[expose] public section

set_option synthInstance.maxSize 4096
set_option maxRecDepth 65536

noncomputable section

namespace Cert.Gather

open Cert.KernelIdeal Cert.KernelIdeal.Gen Idealize.ShloMosaic Idealize.SL.Sem

variable {F : FTy → Type} [FloatOps F]

/-- A part of the printed body at the buffers and semaphores of the call. -/
abbrev on {β : Type 1} (p : (arg0 : Memref sig .tc .vmem S1024x512 .f32) → arg0.IsWhole → (arg1 : Memref sig .tc .vmem S4096x512 .f32) → arg1.IsWhole →
    DmaSems sig S3 → DmaSems sig S3 → DmaSems sig S3 → DmaSems sig S3 → DmaSems sig S2x3 → DmaSems sig S2x3 → DmaSems sig S2x3 →
    DmaSems sig S2x3 → DmaSems sig S2x3 → DmaSems sig S2x3 → DmaSems sig S2x3 → DmaSems sig S2x3 → β) : β :=
  p xM (Memref.isWhole_whole _) oM (Memref.isWhole_whole _) cc0_scratch0 cc0_scratch1 cc0_scratch2 cc0_scratch3 cc0_scratch4 cc0_scratch5
    cc0_scratch6 cc0_scratch7 cc0_scratch8 cc0_scratch9 cc0_scratch10 cc0_scratch11

variable (c : Dev nD)

/-- Part 1 of the body does the steps named. -/
theorem part1 (v2 v5 v8 v21 v22 : BitVec 32) (h : k0_cond15 c = 1#1) :
    Raw (F := F) c [.recv (1, true, 0), .send (4, true, 0), .recv (2, true, 0)] (on (k0_part1 (F := F)) c v2 v5 v8 v21 v22 h) := by
  rw [k0_part1_eq_skeleton]
  unfold k0_part1_skel
  exact Raw.forward true 0 h (by decide +kernel) rfl rfl rfl

/-- Part 2 of the body does the steps named. -/
theorem part2 (v2 v5 v8 v21 v22 : BitVec 32) (h : k0_cond16 c = 1#1) :
    Raw (F := F) c [.recv (1, false, 0), .send (4, false, 0), .recv (2, false, 0)] (on (k0_part2 (F := F)) c v2 v5 v8 v21 v22 h) := by
  rw [k0_part2_eq_skeleton]
  unfold k0_part2_skel
  exact Raw.forward false 0 h (by decide +kernel) rfl rfl rfl

/-- Part 3 of the body does the steps named. -/
theorem part3 (v2 v5 v8 v21 v22 : BitVec 32) (h : k0_cond25 c = 1#1) :
    Raw (F := F) c [.recv (1, true, 1), .send (4, true, 1), .recv (2, true, 1)] (on (k0_part3 (F := F)) c v2 v5 v8 v21 v22 h) := by
  rw [k0_part3_eq_skeleton]
  unfold k0_part3_skel
  exact Raw.forward true 1 h (by decide +kernel) rfl rfl rfl

/-- Part 4 of the body does the steps named. -/
theorem part4 (v2 v5 v8 v21 v22 : BitVec 32) (h : k0_cond26 c = 1#1) :
    Raw (F := F) c [.recv (1, false, 1), .send (4, false, 1), .recv (2, false, 1)] (on (k0_part4 (F := F)) c v2 v5 v8 v21 v22 h) := by
  rw [k0_part4_eq_skeleton]
  unfold k0_part4_skel
  exact Raw.forward false 1 h (by decide +kernel) rfl rfl rfl

/-- Part 5 of the body does the steps named. -/
theorem part5 (v2 v5 v8 v21 v22 : BitVec 32) (h : k0_cond33 c = 1#1) :
    Raw (F := F) c [.recv (1, true, 2), .send (4, true, 2), .recv (2, true, 2)] (on (k0_part5 (F := F)) c v2 v5 v8 v21 v22 h) := by
  rw [k0_part5_eq_skeleton]
  unfold k0_part5_skel
  exact Raw.forward true 2 h (by decide +kernel) rfl rfl rfl

/-- Part 6 of the body does the steps named. -/
theorem part6 (v2 v5 v8 v21 v22 : BitVec 32) (h : k0_cond34 c = 1#1) :
    Raw (F := F) c [.recv (1, false, 2), .send (4, false, 2), .recv (2, false, 2)] (on (k0_part6 (F := F)) c v2 v5 v8 v21 v22 h) := by
  rw [k0_part6_eq_skeleton]
  unfold k0_part6_skel
  exact Raw.forward false 2 h (by decide +kernel) rfl rfl rfl

/-- Part 10 of the body does the steps named. -/
theorem part10 (v2 : BitVec 32) (v5 : BitVec 32) (v8 : BitVec 32) (v10 : BitVec 32) (v88 : BitVec 1) (v92 : BitVec 32) (v93 : BitVec 32) (w : BitVec 32) :
    Does (F := F) c [.recv (0, true, 0), .send (0, true, 1)]
      (on (k0_part10 (F := F)) c v2 v5 v8 v10 v88 v92 v93 w) := by
  rw [k0_part10_eq_skeleton]
  unfold k0_part10_skel
  refine Does.waitW (.recv (0, true, 0)) (by decide +kernel) rfl ?_
  refine Does.send (0, true, 1) (by decide +kernel) rfl ?_
  exact Does.ret _

/-- Part 11 of the body does the steps named. -/
theorem part11 (v2 : BitVec 32) (v5 : BitVec 32) (v8 : BitVec 32) (v10 : BitVec 32) (v118 : BitVec 1) (v122 : BitVec 32) (v123 : BitVec 32) (v124 : BitVec 32) :
    Does (F := F) c [.recv (0, false, 0), .send (0, false, 1)]
      (on (k0_part11 (F := F)) c v2 v5 v8 v10 v118 v122 v123 v124) := by
  rw [k0_part11_eq_skeleton]
  unfold k0_part11_skel
  refine Does.waitW (.recv (0, false, 0)) (by decide +kernel) rfl ?_
  refine Does.send (0, false, 1) (by decide +kernel) rfl ?_
  exact Does.ret _

/-- Part 12 of the body does the steps named. -/
theorem part12 (v2 : BitVec 32) (v5 : BitVec 32) (v8 : BitVec 32) (v10 : BitVec 32) (v21 : BitVec 32) (v22 : BitVec 32) (v149 : BitVec 1) (v153 : BitVec 32) (v154 : BitVec 32) (w : BitVec 32) :
    Does (F := F) c [.send (1, true, 0), .send (2, true, 0)]
      (on (k0_part12 (F := F)) c v2 v5 v8 v10 v21 v22 v149 v153 v154 w) := by
  rw [k0_part12_eq_skeleton]
  unfold k0_part12_skel
  refine Does.send (1, true, 0) (by decide +kernel) rfl ?_
  refine Does.send (2, true, 0) (by decide +kernel) rfl ?_
  exact Does.ret _

/-- Part 13 of the body does the steps named. -/
theorem part13 (v2 : BitVec 32) (v5 : BitVec 32) (v8 : BitVec 32) (v10 : BitVec 32) (v13 : BitVec 32) (v16 : BitVec 32) (v21 : BitVec 32) (v22 : BitVec 32) (v170 : BitVec 1) (v174 : BitVec 32) :
    Does (F := F) c [.send (1, false, 0), .send (2, false, 0)]
      (on (k0_part13 (F := F)) c v2 v5 v8 v10 v13 v16 v21 v22 v170 v174) := by
  rw [k0_part13_eq_skeleton]
  unfold k0_part13_skel
  refine Does.send (1, false, 0) (by decide +kernel) rfl ?_
  refine Does.send (2, false, 0) (by decide +kernel) rfl ?_
  exact Does.ret _

/-- Part 14 of the body does the steps named. -/
theorem part14 (v2 : BitVec 32) (v5 : BitVec 32) (v8 : BitVec 32) (v13 : BitVec 32) (v16 : BitVec 32) (v21 : BitVec 32) (v22 : BitVec 32) (v191 : BitVec 1) (v195 : BitVec 32) (w : BitVec 32) :
    Does (F := F) c [.recv (1, true, 0), .send (4, true, 0), .recv (2, true, 0), .send (3, true, 0)]
      (on (k0_part14 (F := F)) c v2 v5 v8 v13 v16 v21 v22 v191 v195 w) := by
  rw [k0_part14_eq_skeleton]
  unfold k0_part14_skel
  refine Does.forward true 0 (by decide +kernel) (by decide +kernel) (fun hh => part1 c _ _ _ _ _ hh) rfl ?_
  exact Does.ret _

/-- Part 15 of the body does the steps named. -/
theorem part15 (v2 : BitVec 32) (v5 : BitVec 32) (v8 : BitVec 32) (v10 : BitVec 32) (v13 : BitVec 32) (v16 : BitVec 32) (v21 : BitVec 32) (v22 : BitVec 32) (v222 : BitVec 1) (v226 : BitVec 32) (w : BitVec 32) :
    Does (F := F) c [.recv (1, false, 0), .send (4, false, 0), .recv (2, false, 0), .send (3, false, 0)]
      (on (k0_part15 (F := F)) c v2 v5 v8 v10 v13 v16 v21 v22 v222 v226 w) := by
  rw [k0_part15_eq_skeleton]
  unfold k0_part15_skel
  refine Does.forward false 0 (by decide +kernel) (by decide +kernel) (fun hh => part2 c _ _ _ _ _ hh) rfl ?_
  exact Does.ret _

/-- Part 16 of the body does the steps named. -/
theorem part16 (v2 : BitVec 32) (v5 : BitVec 32) (v8 : BitVec 32) (v10 : BitVec 32) (v264 : BitVec 32) :
    Does (F := F) c [.recv (0, true, 1), .send (0, true, 2)]
      (on (k0_part16 (F := F)) c v2 v5 v8 v10 v264) := by
  rw [k0_part16_eq_skeleton]
  unfold k0_part16_skel
  refine Does.waitW (.recv (0, true, 1)) (by decide +kernel) rfl ?_
  refine Does.send (0, true, 2) (by decide +kernel) rfl ?_
  exact Does.ret _

/-- Part 17 of the body does the steps named. -/
theorem part17 (v2 : BitVec 32) (v5 : BitVec 32) (v8 : BitVec 32) (v10 : BitVec 32) (v294 : BitVec 32) :
    Does (F := F) c [.recv (0, false, 1), .send (0, false, 2)]
      (on (k0_part17 (F := F)) c v2 v5 v8 v10 v294) := by
  rw [k0_part17_eq_skeleton]
  unfold k0_part17_skel
  refine Does.waitW (.recv (0, false, 1)) (by decide +kernel) rfl ?_
  refine Does.send (0, false, 2) (by decide +kernel) rfl ?_
  exact Does.ret _

/-- Part 18 of the body does the steps named. -/
theorem part18 (v2 : BitVec 32) (v5 : BitVec 32) (v8 : BitVec 32) (v10 : BitVec 32) (v21 : BitVec 32) (v22 : BitVec 32) (v314 : BitVec 1) (v318 : BitVec 32) (v325 : BitVec 32) :
    Does (F := F) c [.send (1, true, 1), .send (2, true, 1), .send (1, false, 1)]
      (on (k0_part18 (F := F)) c v2 v5 v8 v10 v21 v22 v314 v318 v325) := by
  rw [k0_part18_eq_skeleton]
  unfold k0_part18_skel
  refine Does.send (1, true, 1) (by decide +kernel) rfl ?_
  refine Does.send (2, true, 1) (by decide +kernel) rfl ?_
  refine Does.send (1, false, 1) (by decide +kernel) rfl ?_
  exact Does.ret _

/-- Part 19 of the body does the steps named. -/
theorem part19 (v2 : BitVec 32) (v8 : BitVec 32) (v10 : BitVec 32) (v13 : BitVec 32) (v16 : BitVec 32) (v22 : BitVec 32) (v335 : BitVec 1) (v351 : BitVec 32) :
    Does (F := F) c [.send (2, false, 1)]
      (on (k0_part19 (F := F)) c v2 v8 v10 v13 v16 v22 v335 v351) := by
  rw [k0_part19_eq_skeleton]
  unfold k0_part19_skel
  refine Does.send (2, false, 1) (by decide +kernel) rfl ?_
  exact Does.ret _

/-- Part 20 of the body does the steps named. -/
theorem part20 (v2 : BitVec 32) (v5 : BitVec 32) (v8 : BitVec 32) (v13 : BitVec 32) (v16 : BitVec 32) (v21 : BitVec 32) (v22 : BitVec 32) (v356 : BitVec 1) (v382 : BitVec 32) (v383 : BitVec 32) :
    Does (F := F) c [.recv (1, true, 1), .send (4, true, 1), .recv (2, true, 1), .send (3, true, 1)]
      (on (k0_part20 (F := F)) c v2 v5 v8 v13 v16 v21 v22 v356 v382 v383) := by
  rw [k0_part20_eq_skeleton]
  unfold k0_part20_skel
  refine Does.forward true 1 (by decide +kernel) (by decide +kernel) (fun hh => part3 c _ _ _ _ _ hh) rfl ?_
  exact Does.ret _

/-- Part 21 of the body does the steps named. -/
theorem part21 (v2 : BitVec 32) (v5 : BitVec 32) (v8 : BitVec 32) (v10 : BitVec 32) (v16 : BitVec 32) (v21 : BitVec 32) (v22 : BitVec 32) (v387 : BitVec 1) (v391 : BitVec 32) (v407 : BitVec 32) (v408 : BitVec 32) :
    Does (F := F) c [.recv (1, false, 1), .send (4, false, 1), .recv (2, false, 1), .send (3, false, 1), .recv (0, true, 2)]
      (on (k0_part21 (F := F)) c v2 v5 v8 v10 v16 v21 v22 v387 v391 v407 v408) := by
  rw [k0_part21_eq_skeleton]
  unfold k0_part21_skel
  refine Does.forward false 1 (by decide +kernel) (by decide +kernel) (fun hh => part4 c _ _ _ _ _ hh) rfl ?_
  refine Does.waitW (.recv (0, true, 2)) (by decide +kernel) rfl ?_
  exact Does.ret _

/-- Part 22 of the body does the steps named. -/
theorem part22 (v2 : BitVec 32) (v5 : BitVec 32) (v8 : BitVec 32) (v10 : BitVec 32) (v21 : BitVec 32) (v431 : BitVec 1) (w : BitVec 32) :
    Does (F := F) c [.recv (0, false, 2), .send (1, true, 2)]
      (on (k0_part22 (F := F)) c v2 v5 v8 v10 v21 v431 w) := by
  rw [k0_part22_eq_skeleton]
  unfold k0_part22_skel
  refine Does.waitW (.recv (0, false, 2)) (by decide +kernel) rfl ?_
  refine Does.send (1, true, 2) (by decide +kernel) rfl ?_
  exact Does.ret _

/-- Part 23 of the body does the steps named. -/
theorem part23 (v2 : BitVec 32) (v5 : BitVec 32) (v8 : BitVec 32) (v10 : BitVec 32) (v21 : BitVec 32) (v22 : BitVec 32) (v444 : BitVec 1) (v460 : BitVec 32) (v461 : BitVec 32) :
    Does (F := F) c [.send (2, true, 2), .send (1, false, 2), .send (2, false, 2)]
      (on (k0_part23 (F := F)) c v2 v5 v8 v10 v21 v22 v444 v460 v461) := by
  rw [k0_part23_eq_skeleton]
  unfold k0_part23_skel
  refine Does.send (2, true, 2) (by decide +kernel) rfl ?_
  refine Does.send (1, false, 2) (by decide +kernel) rfl ?_
  refine Does.send (2, false, 2) (by decide +kernel) rfl ?_
  exact Does.ret _

/-- Part 25 of the body does the steps named. -/
theorem part25 (v2 : BitVec 32) (v5 : BitVec 32) (v8 : BitVec 32) (v13 : BitVec 32) (v16 : BitVec 32) (v21 : BitVec 32) (v22 : BitVec 32) (v515 : BitVec 32) :
    Does (F := F) c [.recv (1, true, 2), .send (4, true, 2), .recv (2, true, 2), .send (3, true, 2)]
      (on (k0_part25 (F := F)) c v2 v5 v8 v13 v16 v21 v22 v515) := by
  rw [k0_part25_eq_skeleton]
  unfold k0_part25_skel
  refine Does.forward true 2 (by decide +kernel) (by decide +kernel) (fun hh => part5 c _ _ _ _ _ hh) rfl ?_
  exact Does.ret _

/-- Part 26 of the body does the steps named. -/
theorem part26 (v2 : BitVec 32) (v5 : BitVec 32) (v8 : BitVec 32) (v20 : BitVec 32) (v21 : BitVec 32) (v22 : BitVec 32) (v546 : BitVec 32) :
    Does (F := F) c [.recv (1, false, 2), .send (4, false, 2), .recv (2, false, 2), .send (3, false, 2), .recv (4, true, 0), .recv (3, true, 0)]
      (on (k0_part26 (F := F)) c v2 v5 v8 v20 v21 v22 v546) := by
  rw [k0_part26_eq_skeleton]
  unfold k0_part26_skel
  refine Does.forward false 2 (by decide +kernel) (by decide +kernel) (fun hh => part6 c _ _ _ _ _ hh) rfl ?_
  refine Does.tail (.recv (4, true, 0)) (.recv (3, true, 0)) (by decide +kernel) rfl rfl ?_
  exact Does.ret _

/-- Part 27 of the body does the steps named. -/
theorem part27 (v2 : BitVec 32) (v5 : BitVec 32) (v8 : BitVec 32) (v20 : BitVec 32) (v567 : BitVec 1) (w : BitVec 32) :
    Does (F := F) c [.recv (4, false, 0), .recv (3, false, 0)]
      (on (k0_part27 (F := F)) c v2 v5 v8 v20 v567 w) := by
  rw [k0_part27_eq_skeleton]
  unfold k0_part27_skel
  refine Does.tail (.recv (4, false, 0)) (.recv (3, false, 0)) (by decide +kernel) rfl rfl ?_
  exact Does.ret _

/-- Part 28 of the body does the steps named. -/
theorem part28 (v2 : BitVec 32) (v5 : BitVec 32) (v8 : BitVec 32) (v20 : BitVec 32) (v586 : BitVec 1) (v590 : BitVec 32) (w : BitVec 32) :
    Does (F := F) c [.recv (4, true, 1), .recv (3, true, 1)]
      (on (k0_part28 (F := F)) c v2 v5 v8 v20 v586 v590 w) := by
  rw [k0_part28_eq_skeleton]
  unfold k0_part28_skel
  refine Does.tail (.recv (4, true, 1)) (.recv (3, true, 1)) (by decide +kernel) rfl rfl ?_
  exact Does.ret _

/-- Part 29 of the body does the steps named. -/
theorem part29 (v2 : BitVec 32) (v5 : BitVec 32) (v8 : BitVec 32) (v20 : BitVec 32) (v622 : BitVec 32) :
    Does (F := F) c [.recv (4, false, 1), .recv (3, false, 1), .recv (4, true, 2), .recv (3, true, 2)]
      (on (k0_part29 (F := F)) c v2 v5 v8 v20 v622) := by
  rw [k0_part29_eq_skeleton]
  unfold k0_part29_skel
  refine Does.tail (.recv (4, false, 1)) (.recv (3, false, 1)) (by decide +kernel) rfl rfl ?_
  refine Does.tail (.recv (4, true, 2)) (.recv (3, true, 2)) (by decide +kernel) rfl rfl ?_
  exact Does.ret _

/-- Part 30 of the body does the steps named. -/
theorem part30 (v2 : BitVec 32) (v5 : BitVec 32) (v8 : BitVec 32) (v20 : BitVec 32) (v54 : BitVec 1) (v70 : BitVec 1) (v103 : BitVec 1) (v134 : BitVec 1) (v149 : BitVec 1) (v643 : BitVec 1) (v647 : BitVec 32) :
    Does (F := F) c [.recv (4, false, 2), .recv (3, false, 2), .drain (0, true, 0), .drain (0, false, 0), .drain (0, true, 1), .drain (0, false, 1), .drain (1, true, 0)]
      (on (k0_part30 (F := F)) c v2 v5 v8 v20 v54 v70 v103 v134 v149 v643 v647) := by
  rw [k0_part30_eq_skeleton]
  unfold k0_part30_skel
  refine Does.tail (.recv (4, false, 2)) (.recv (3, false, 2)) (by decide +kernel) rfl rfl ?_
  refine Does.waitX (.drain (0, true, 0)) (by decide +kernel) rfl ?_
  refine Does.waitX (.drain (0, false, 0)) (by decide +kernel) rfl ?_
  refine Does.waitW (.drain (0, true, 1)) (by decide +kernel) rfl ?_
  refine Does.waitW (.drain (0, false, 1)) (by decide +kernel) rfl ?_
  refine Does.waitW (.drain (1, true, 0)) (by decide +kernel) rfl ?_
  exact Does.ret _

/-- Part 31 of the body does the steps named. -/
theorem part31 (v170 : BitVec 1) (v191 : BitVec 1) (v222 : BitVec 1) (v268 : BitVec 1) (v672 : BitVec 32) :
    Does (F := F) c [.drain (2, true, 0), .drain (1, false, 0), .drain (2, false, 0), .drain (4, true, 0), .drain (3, true, 0), .drain (4, false, 0), .drain (3, false, 0)]
      (on (k0_part31 (F := F)) c v170 v191 v222 v268 v672) := by
  rw [k0_part31_eq_skeleton]
  unfold k0_part31_skel
  refine Does.waitW (.drain (2, true, 0)) (by decide +kernel) rfl ?_
  refine Does.waitW (.drain (1, false, 0)) (by decide +kernel) rfl ?_
  refine Does.waitW (.drain (2, false, 0)) (by decide +kernel) rfl ?_
  refine Does.waitH (.drain (4, true, 0)) (by decide +kernel) rfl ?_
  refine Does.waitH (.drain (3, true, 0)) (by decide +kernel) rfl ?_
  refine Does.waitH (.drain (4, false, 0)) (by decide +kernel) rfl ?_
  refine Does.waitH (.drain (3, false, 0)) (by decide +kernel) rfl ?_
  exact Does.ret _

/-- Part 32 of the body does the steps named. -/
theorem part32 (v299 : BitVec 1) (v314 : BitVec 1) (v335 : BitVec 1) (v356 : BitVec 1) (v387 : BitVec 1) :
    Does (F := F) c [.drain (0, true, 2), .drain (0, false, 2), .drain (1, true, 1), .drain (2, true, 1), .drain (1, false, 1), .drain (2, false, 1), .drain (4, true, 1), .drain (3, true, 1)]
      (on (k0_part32 (F := F)) c v299 v314 v335 v356 v387) := by
  rw [k0_part32_eq_skeleton]
  unfold k0_part32_skel
  refine Does.waitW (.drain (0, true, 2)) (by decide +kernel) rfl ?_
  refine Does.waitW (.drain (0, false, 2)) (by decide +kernel) rfl ?_
  refine Does.waitW (.drain (1, true, 1)) (by decide +kernel) rfl ?_
  refine Does.waitW (.drain (2, true, 1)) (by decide +kernel) rfl ?_
  refine Does.waitW (.drain (1, false, 1)) (by decide +kernel) rfl ?_
  refine Does.waitW (.drain (2, false, 1)) (by decide +kernel) rfl ?_
  refine Does.waitH (.drain (4, true, 1)) (by decide +kernel) rfl ?_
  refine Does.waitH (.drain (3, true, 1)) (by decide +kernel) rfl ?_
  exact Does.ret _

/-- Part 33 of the body does the steps named. -/
theorem part33 (v387 : BitVec 1) (v444 : BitVec 1) (v465 : BitVec 1) (v486 : BitVec 1) (v517 : BitVec 1) (v702 : BitVec 32) :
    Does (F := F) c [.drain (4, false, 1), .drain (3, false, 1), .drain (1, true, 2), .drain (2, true, 2), .drain (1, false, 2), .drain (2, false, 2), .drain (4, true, 2), .drain (3, true, 2)]
      (on (k0_part33 (F := F)) c v387 v444 v465 v486 v517 v702) := by
  rw [k0_part33_eq_skeleton]
  unfold k0_part33_skel
  refine Does.waitH (.drain (4, false, 1)) (by decide +kernel) rfl ?_
  refine Does.waitH (.drain (3, false, 1)) (by decide +kernel) rfl ?_
  refine Does.waitW (.drain (1, true, 2)) (by decide +kernel) rfl ?_
  refine Does.waitW (.drain (2, true, 2)) (by decide +kernel) rfl ?_
  refine Does.waitW (.drain (1, false, 2)) (by decide +kernel) rfl ?_
  refine Does.waitW (.drain (2, false, 2)) (by decide +kernel) rfl ?_
  refine Does.waitH (.drain (4, true, 2)) (by decide +kernel) rfl ?_
  refine Does.waitH (.drain (3, true, 2)) (by decide +kernel) rfl ?_
  exact Does.ret _

end Cert.Gather

end
-- ==== Proof.BodyEq.lean ====
/-
# The whole body

The printed body is: read the device's number, shake hands with the neighbours at the barrier, make the first hops, copy
the device's own block into the gathered array, then run through `steps₁`.
-/
module

public import proofs.«01_k».proof.Proof.Parts

@[expose] public section

set_option synthInstance.maxSize 4096
set_option maxRecDepth 65536

noncomputable section

namespace Cert.Gather

open Cert.KernelIdeal Cert.KernelIdeal.Gen Idealize.ShloMosaic Idealize.SL.Sem

variable {F : FTy → Type} [FloatOps F]

/-- One signal to a device's barrier; the wait on one's own. -/
def sg (c' : Dev nD) : Pg F PUnit := semSignalWord c' (barrier0 : Sem sig) 1#32
def wt (n : BitVec 32) : Pg F PUnit := semWaitWord (barrier0 : Sem sig) n
/-- The signal to neighbour `d`, if there is one. -/
def sgIf (d : Fin 4) (c : Dev nD) : Pg F PUnit := if has d c = true then sg (nb d c) else pure ⟨⟩
/-- How many neighbours a device has, as the word its wait names. -/
def nbrs (c : Dev nD) : BitVec 32 := if has 2 c = true ∧ has 3 c = true then 4#32 else 3#32

/-- The store of the device's own block into the gathered array, with the loads before it. -/
def keep (c : Dev nD) : Pg F PUnit :=
  Prog.lift (.load xM (Rect.unit (s := S1024x512) ![0, 0] S1024x512.size inb_S1024x512_S1024x512_0_0).toLoadRect (View.loadsAt_vmem h_S1024x512)) >>= fun v =>
  Prog.lift (.load oM (Rect.unit (s := S4096x512) (k0_off5 c) S1024x512.size (k0_off5_inb c)).toLoadRect (View.loadsAt_vmem h_S1024x512)) >>= fun _ =>
  Prog.lift (.store oM (Rect.unit (s := S4096x512) (k0_off5 c) S1024x512.size (k0_off5_inb c)) (k0_pay1 v) Finset.univ
    (View.stores_vmem_bits_univ h_S1024x512 rfl) (.inl rfl))

/-- The device's third coordinate, as the kernel computes it. -/
def zword (c : Dev nD) : BitVec 32 := Scalar.remsi (Scalar.divsi (Dev.word c) 1#32) 4#32

variable (c : Dev nD)

/-- The first signal goes to the neighbour along `x`, -/
theorem dev1 : ∀ d : Dev nD, k0_dev1 d = (nb 0 d).val := by decide +kernel
/-- the second to that along `y`, -/
theorem dev2 : ∀ d : Dev nD, k0_dev2 d = (nb 1 d).val := by decide +kernel
/-- the third to the one below in `z`, on a device that has one, -/
theorem dev3 : ∀ d : Dev nD, has 2 d = decide (k0_cond1 d = 1#1) ∧ (k0_cond1 d = 1#1 → k0_dev3 d = (nb 2 d).val) := by decide +kernel
/-- the fourth to the one above, on a device that has one. -/
theorem dev4 : ∀ d : Dev nD, has 3 d = decide (k0_cond2 d = 1#1) ∧ (k0_cond2 d = 1#1 → k0_dev4 d = (nb 3 d).val) := by decide +kernel
/-- The first wait is for a device that has both neighbours along `z`, -/
theorem inner : ∀ d : Dev nD, decide (Scalar.cmpi .ne (Scalar.extui (Scalar.andi (Scalar.cmpi .sge (zword d) 1#32) (Scalar.cmpi .sle (zword d) 2#32))) 0#32 = 1#1)
    = decide (has 2 d = true ∧ has 3 d = true) := by decide +kernel
/-- the second for one that has not. -/
theorem outer : ∀ d : Dev nD, decide (Scalar.cmpi .ne (Scalar.extui (Scalar.ori (Scalar.cmpi .eq (zword d) 0#32) (Scalar.cmpi .eq (zword d) 3#32))) 0#32 = 1#1)
    = !decide (has 2 d = true ∧ has 3 d = true) := by decide +kernel

/-- The first two transfers, up and down: when they are made, from where, to where and to whom. -/
theorem first : ∀ d : Dev nD,
    (snd (0, true, 0) d = decide (k0_cond5 d = 1#1) ∧ (k0_cond5 d = 1#1 → k0_off2 d = offX (qme d)
      ∧ k0_off1 d = offR ((sR (0, true, 0) d).1, (sR (0, true, 0) d).2.1, 0) ∧ k0_dev5 d = (tgt (0, true, 0) d).val))
    ∧ (snd (0, false, 0) d = decide (k0_cond6 d = 1#1) ∧ (k0_cond6 d = 1#1 → k0_off4 d = offX (qme d)
      ∧ k0_off3 d = offR ((sR (0, false, 0) d).1, (sR (0, false, 0) d).2.1, 0) ∧ k0_dev6 d = (tgt (0, false, 0) d).val)) := by decide +kernel

/-- The barrier semaphore as the kernel gets it. -/
abbrev bS : Sems sig S_ := SemArray.scalar (sig.barrier 0 rfl)

/-- A device's number names the device. -/
theorem sg_eq {n : Nat} {hn : n < nD} {c' : Dev nD} (h : n = c'.val) :
    (semSignalWord (⟨n, hn⟩ : Dev nD) bS.sem 1#32 : Pg F PUnit) = sg c' := by subst h; rfl

/-- One operation, then something; -/
theorem then_eq {α : Type} {P Q : Pg F PUnit} {K : Pg F α} {R : α → Pg F α} (hP : P = Q) (hK : ∃ w, K = R w) :
    ∃ w, (P >>= fun _ => K) = (Q >>= fun _ => R w) := by
  obtain ⟨w, rfl⟩ := hK; exact ⟨w, by rw [hP]⟩

/-- a conditional region of one operation, then something. -/
theorem region_eq {α : Type} {p : Prop} [Decidable p] {b : Bool} {B : p → Pg F α} {Q : Pg F PUnit} {K : Pg F α} {R : α → Pg F α}
    (hb : b = decide p) (hB : ∀ h, B h = (Q >>= fun _ => K)) (hK : ∃ w, K = R w) :
    ∃ w, (if h : p then B h else K) = ((if b = true then Q else pure ⟨⟩) >>= fun _ => R w) := by
  obtain ⟨w, rfl⟩ := hK
  refine ⟨w, ?_⟩
  by_cases h : p
  · rw [dif_pos h, hB h, if_pos (by rw [hb]; exact decide_eq_true h)]
  · rw [dif_neg h, if_neg (by rw [hb, decide_eq_false h]; exact Bool.false_ne_true), pure_bind]

/-- Two regions of which exactly one is taken. -/
theorem either_eq {α : Type} {p q : Prop} [Decidable p] [Decidable q] {a : Prop} [Decidable a] {B : p → Pg F α} {B' : q → Pg F α} {X Y : BitVec 32}
    {K : Pg F α} {R : α → Pg F α} (hp : decide p = decide a) (hq : decide q = !decide a)
    (hB : ∀ h, B h = (wt X >>= fun _ => if h : q then B' h else K)) (hB' : ∀ h, B' h = (wt Y >>= fun _ => K)) (hK : ∃ w, K = R w) :
    ∃ w, (if h : p then B h else if h : q then B' h else K) = (wt (if a then X else Y) >>= fun _ => R w) := by
  obtain ⟨w, rfl⟩ := hK
  refine ⟨w, ?_⟩
  by_cases h : a
  · have h₁ : p := of_decide_eq_true (by rw [hp]; exact decide_eq_true h)
    have h₂ : ¬q := of_decide_eq_false (by rw [hq, decide_eq_true h]; rfl)
    rw [dif_pos h₁, hB h₁, dif_neg h₂, if_pos h]
  · have h₁ : ¬p := of_decide_eq_false (by rw [hp]; exact decide_eq_false h)
    have h₂ : q := of_decide_eq_true (by rw [hq, decide_eq_false h]; rfl)
    rw [dif_neg h₁, dif_pos h₂, hB' h₂, if_neg h]

/-- The handshake from the second signal on. -/
theorem part8 (v2 v5 v10 v31 v32 : BitVec 32) : ∃ w, on (k0_part8 (F := F)) c v2 v5 (zword c) v10 bS v31 v32
    = (sg (nb 1 c) >>= fun _ => sgIf 2 c >>= fun _ => sgIf 3 c >>= fun _ => wt (nbrs c) >>= fun _ => pure w) := by
  rw [k0_part8_eq_skeleton]
  unfold k0_part8_skel
  refine then_eq (sg_eq (dev2 c)) ?_
  refine region_eq (dev3 c).1 (fun h => congrArg (fun P : Pg F PUnit => P >>= fun _ => _) (sg_eq ((dev3 c).2 h))) ?_
  refine region_eq (dev4 c).1 (fun h => congrArg (fun P : Pg F PUnit => P >>= fun _ => _) (sg_eq ((dev4 c).2 h))) ?_
  exact either_eq (inner c) (outer c) (fun _ => rfl) (fun _ => rfl) ⟨_, rfl⟩

/-- The first hops and the store of the device's own block. -/
theorem part9 (v2 v5 v8 v10 v60 v65 : BitVec 32) : ∃ w, on (k0_part9 (F := F)) c v2 v5 v8 v10 v60 v65
    = runL c steps₀ (keep c >>= fun _ => pure w) := by
  rw [k0_part9_eq_skeleton]
  unfold k0_part9_skel
  refine region_eq (b := snd (0, true, 0) c) (Q := opSend (0, true, 0) c) (first c).1.1
    (fun h => congrArg (fun P : Pg F PUnit => P >>= fun _ => _) (xfer_own (qme c) (sR (0, true, 0) c) (tgt (0, true, 0) c)
      ((first c).1.2 h).1 ((first c).1.2 h).2.1 ((first c).1.2 h).2.2)) ?_
  refine region_eq (b := snd (0, false, 0) c) (Q := opSend (0, false, 0) c) (first c).2.1
    (fun h => congrArg (fun P : Pg F PUnit => P >>= fun _ => _) (xfer_own (qme c) (sR (0, false, 0) c) (tgt (0, false, 0) c)
      ((first c).2.2 h).1 ((first c).2.2 h).2.1 ((first c).2.2 h).2.2)) ?_
  exact ⟨_, rfl⟩

/-- The handshake, the first hops and the rest, one after another. -/
theorem seq8 {α β : Type} {p : Pg F β} {f : β → Pg F α} {A B C D : Pg F PUnit} {K : Pg F α}
    (hp : ∃ w, p = (A >>= fun _ => B >>= fun _ => C >>= fun _ => D >>= fun _ => pure w)) (hf : ∀ w, f w = K) :
    (p >>= f) = (A >>= fun _ => B >>= fun _ => C >>= fun _ => D >>= fun _ => K) := by
  obtain ⟨w, rfl⟩ := hp
  simp only [bind_assoc, pure_bind, hf]
/-- A program that runs steps, then an operation, goes on after them with what follows it. -/
theorem seq9 {α β : Type} {l : List Step} {p : Pg F β} {f : β → Pg F α} {A : Pg F PUnit} {K : Pg F α}
    (hp : ∃ w, p = runL c l (A >>= fun _ => pure w)) (hf : ∀ w, f w = K) : (p >>= f) = runL c l (A >>= fun _ => K) := by
  obtain ⟨w, rfl⟩ := hp
  rw [runL_bind]
  simp only [bind_assoc, pure_bind, hf]
/-- A program that does a list of steps is the run of that list. -/
theorem Does.toEq {c : Dev nD} {L L' : List Step} {p : Pg F PUnit} (h : Does c L p) (hL : L = L') : p = runL c L' (pure ⟨⟩) := by
  obtain ⟨w, hw⟩ := h; subst hL; exact hw

/-- The body, as what it does. -/
theorem body_eq : on (cc0_body (F := F)) = (Prog.lift .deviceId >>= fun c : Dev nD => sg (nb 0 c) >>= fun _ => sg (nb 1 c) >>= fun _ => sgIf 2 c >>= fun _ =>
    sgIf 3 c >>= fun _ => wt (nbrs c) >>= fun _ => runL c steps₀ (keep c >>= fun _ => runL c steps₁ (pure ⟨⟩))) := by
  rw [cc0_body_eq_skeleton]
  unfold cc0_body_skel
  rw [k0_part7_eq_skeleton]
  unfold k0_part7_skel
  refine (bind_assoc _ _ _).trans ?_
  refine congrArg (fun P : Dev nD → Pg F PUnit => Prog.lift .deviceId >>= P) (funext fun c => ?_)
  refine (bind_assoc _ _ _).trans ?_
  refine congr (congrArg _ (sg_eq (dev1 c))) (funext fun _ => ?_)
  refine (pure_bind _ _).trans ?_
  refine seq8 (part8 c _ _ _ _ _) ?_
  rintro ⟨v54, v60, v65⟩
  refine seq9 c (part9 c _ _ _ _ _ _) ?_
  rintro ⟨v70, v88, v92, v93, w⟩
  apply Does.toEq
  apply Does.bind (part10 c _ _ _ _ _ _ _ _)
  rintro ⟨v103, v118, v122, v123, v124⟩
  apply Does.bind (part11 c _ _ _ _ _ _ _ _)
  rintro ⟨v134, v149, v153, v154, w'⟩
  apply Does.bind (part12 c _ _ _ _ _ _ _ _ _ _)
  rintro ⟨v170, v174⟩
  apply Does.bind (part13 c _ _ _ _ _ _ _ _ _ _)
  rintro ⟨v191, v195, w₁⟩
  apply Does.bind (part14 c _ _ _ _ _ _ _ _ _ _)
  rintro ⟨v222, v226, w₂⟩
  apply Does.bind (part15 c _ _ _ _ _ _ _ _ _ _ _)
  intro v264
  apply Does.bind (part16 c _ _ _ _ _)
  rintro ⟨v268, v294⟩
  apply Does.bind (part17 c _ _ _ _ _)
  rintro ⟨v299, v314, v318, v325⟩
  apply Does.bind (part18 c _ _ _ _ _ _ _ _ _)
  rintro ⟨v335, v351⟩
  apply Does.bind (part19 c _ _ _ _ _ _ _ _)
  rintro ⟨v356, v382, v383⟩
  apply Does.bind (part20 c _ _ _ _ _ _ _ _ _ _)
  rintro ⟨v387, v391, v407, v408⟩
  apply Does.bind (part21 c _ _ _ _ _ _ _ _ _ _ _)
  rintro ⟨v431, w₃⟩
  apply Does.bind (part22 c _ _ _ _ _ _ _)
  rintro ⟨v444, v460, v461⟩
  apply Does.bind (part23 c _ _ _ _ _ _ _ _ _)
  rintro ⟨v465, v486, v487, w₄⟩
  apply Does.bind (Does.ret _)
  intro v515
  apply Does.bind (part25 c _ _ _ _ _ _ _ _)
  rintro ⟨v517, v546⟩
  apply Does.bind (part26 c _ _ _ _ _ _ _)
  rintro ⟨v567, w₅⟩
  apply Does.bind (part27 c _ _ _ _ _ _)
  rintro ⟨v586, v590, w₆⟩
  apply Does.bind (part28 c _ _ _ _ _ _ _)
  intro v622
  apply Does.bind (part29 c _ _ _ _ _)
  rintro ⟨v643, v647⟩
  apply Does.bind (part30 c _ _ _ _ _ _ _ _ _ _ _)
  intro v672
  apply Does.bind (part31 c _ _ _ _ _)
  intro _
  apply Does.bind (part32 c _ _ _ _ _)
  intro v702
  apply Does.bind (part33 c _ _ _ _ _ _)
  intro v718
  · apply Does.waitH (.drain (4, false, 2)) (by decide +kernel) rfl
    apply Does.waitH (.drain (3, false, 2)) (by decide +kernel) rfl
    exact Does.ret _
  · decide

end Cert.Gather

end
-- ==== Proof.Sched.lean ====
/-
# The protocol: which semaphore counts what, and what each count hands over

Every semaphore counts one round. A device's barrier semaphore gets one unit from each neighbour, and with it the
right to write the pieces of that neighbour's gathered array which the device sends there. The receive semaphore of a
transfer hands over the piece that has landed; its send semaphore gives back what was lent for reading.
-/
module

public import proofs.«01_k».proof.Proof.Mem
public import proofs.«01_k».proof.Proof.BodyEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the gather's own, whose duties are told apart by a direction. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's barrier cell, and the cell of one side of a transfer: `true` the receiver's, `false` the sender's. -/
abbrev barCell (c : Dev nD) : GSem nD τ sig := ((c : Thread nD τ), .reg (barrier0 : Sem sig))
abbrev cell (r : Bool) (t : T) (c : Dev nD) : GSem nD τ sig := ((c : Thread nD τ), .dma (dsem r t))

/-- What a semaphore is to the gather: `some none` the barrier, `some (some (r, t))` a side of a transfer. -/
def kind : SemLoc sig → Option (Option (Bool × T))
  | .reg s => if s = (barrier0 : Sem sig) then some none else none
  | .dma q => (decN q.val).map some

/-- The barrier's kind, -/
theorem kind_bar : kind (.reg (barrier0 : Sem sig)) = some none := by unfold kind; exact if_pos rfl
/-- and a transfer's. -/
theorem kind_cell (r : Bool) (t : T) : kind (.dma (dsem r t)) = some (some (r, t)) := congrArg (Option.map some) (decN_semNo r t)

/-- What a transfer counts. -/
def N (t : T) : Nat := if 3 ≤ t.1.val then (half (0, 0, 0)).view.dmaCredit else (slab (0, 0, 0)).view.dmaCredit
/-- A transfer counts something. -/
theorem N_pos (t : T) : 0 < N t := by
  unfold N; split
  · exact View.dmaCredit_pos _ (by decide)
  · exact View.dmaCredit_pos _ (by decide)

/-- Whether a device has a part in one side of a transfer. -/
def part (r : Bool) (t : T) (c : Dev nD) : Bool := if r then rcv t c else snd t c

/-! ## What is held of the buffers -/

/-- Some share of elements of device `c`'s gathered array, holding `f`; of its block. -/
abbrev oPts (c : Dev nD) (S : Finset OI) (q : PosShare TreeShare) (f : OC F) : sProp 𝕄 :=
  ((c : Thread nD τ).loc cc0_stg1_0) ↦[S]{q} f
abbrev xPts (c : Dev nD) (S : Finset XI) (q : PosShare TreeShare) (f : XC F) : sProp 𝕄 :=
  ((c : Thread nD τ).loc cc0_stg0_0) ↦[S]{q} f

/-- The share of the piece a transfer reads that it is lent while it runs: a quarter that goes on along `z` and to both
    plane neighbours is lent three ways, half a quarter goes to one place only. -/
def lent (t : T) : PosShare TreeShare :=
  match t with
  | (0, true, 0) => fullShare.left
  | (0, false, 0) => fullShare.right.left
  | (0, _, _) => fullShare.left
  | (1, _, _) => fullShare.right.left
  | (2, _, _) => fullShare.right.right
  | (_, _, _) => fullShare

variable (X : Dev nD → XC F)

/-- Whether a transfer reads the device's own block. -/
def fromOwn (t : T) : Bool := decide (t.1 = 0) && decide (t.2.2 = 0)

/-- What transfer `t` of device `c` reads, in the share it is lent; -/
def Src (t : T) (c : Dev nD) : sProp 𝕄 :=
  if fromOwn t = true then xPts c (xset c) (lent t) (X c) else oPts c (rset (sR t c)) (lent t) (gat X)
/-- what has landed when it has arrived; -/
def Land (t : T) (c : Dev nD) : sProp 𝕄 := oPts c (rset (lR t c)) fullShare (gat X)
/-- where it may write, at the addressee. -/
def Dst (t : T) (c : Dev nD) : sProp 𝕄 := iprop(∃ f, oPts (F := F) (tgt t c) (rset (sR t c)) fullShare f)

/-- The signal of neighbour `d` hands device `c` the places of all that it sends that way. -/
def barPay (c : Dev nD) (d : Fin 4) : sProp 𝕄 :=
  bigSep Finset.univ fun t : T => if dirOf t = d ∧ snd t c = true then Dst (F := F) t c else iprop(emp)

instance Src_storable (t : T) (c : Dev nD) : BI.Storable (upEmb : UEmb _ 𝕄) (Src X t c) := by unfold Src; split <;> infer_instance
omit [FloatOps F] in
instance Land_storable (t : T) (c : Dev nD) : BI.Storable (upEmb : UEmb _ 𝕄) (Land X t c) := by unfold Land; infer_instance
omit [FloatOps F] in
instance Dst_storable (t : T) (c : Dev nD) : BI.Storable (upEmb : UEmb _ 𝕄) (Dst (F := F) t c) := by unfold Dst; infer_instance
omit [FloatOps F] in
instance barPay_storable (c : Dev nD) (d : Fin 4) : BI.Storable (upEmb : UEmb _ 𝕄) (barPay (F := F) c d) := by
  unfold barPay
  have (t : T) : BI.Storable (upEmb : UEmb _ 𝕄) (if dirOf t = d ∧ snd t c = true then Dst (F := F) t c else iprop(emp)) := by split <;> infer_instance
  infer_instance

/-! ## The schedule -/

/-- The duties of a cell, by what it is. -/
def dutiesOf (k : Option (Option (Bool × T))) (c : Dev nD) : Finset (Fin 4) :=
  match k with
  | some none => Finset.univ.filter fun d => has d c = true
  | some (some (b, t)) => if part b t c = true then {0} else ∅
  | none => ∅

/-- One round, round 0: a barrier cell has a duty of one unit for each neighbour there is; a side of a transfer the one
    duty of its piece, on a device that has a part in it. -/
def Rd : Rounds.Schedule (GSem nD τ sig) (Fin 4) 𝕄 where
  duties g r := if r = 0 ∧ g.1.2 = .tc then dutiesOf (kind g.2) g.1.1 else ∅
  unitless _ := False
  amount g _ _ := match kind g.2 with
    | some (some (_, t)) => N t
    | _ => 1
  payload g _ d := match kind g.2 with
    | some none => barPay g.1.1 d
    | some (some (true, t)) => Land X t g.1.1
    | some (some (false, t)) => Src X t g.1.1
    | none => iprop(emp)
  amount_pos g _ _ _ := by
    show 0 < (match kind g.2 with | some (some (_, t)) => N t | _ => 1)
    split
    · exact N_pos _
    · exact Nat.one_pos

instance Rd_payload_storable (g : GSem nD τ sig) (r : ℕ) (d : Fin 4) : BI.Storable (upEmb : UEmb _ 𝕄) ((Rd X).payload g r d) := by
  show BI.Storable upEmb (match kind g.2 with
    | some none => barPay g.1.1 d
    | some (some (true, t)) => Land X t g.1.1
    | some (some (false, t)) => Src X t g.1.1
    | none => iprop(emp))
  split <;> infer_instance

section Sched
variable (c : Dev nD) (b : Bool) (t : T)

/-- A barrier cell has a duty for each neighbour, -/
theorem duties_bar : (Rd X).duties (barCell c) 0 = Finset.univ.filter fun d => has d c = true := by
  dsimp only [Rd]; rw [if_pos ⟨rfl, rfl⟩, kind_bar]; rfl
/-- a transfer's cell one where the transfer is made: -/
theorem duties_cell : (Rd X).duties (cell b t c) 0 = if part b t c = true then {0} else ∅ := by
  dsimp only [Rd]; rw [if_pos ⟨rfl, rfl⟩, kind_cell]; rfl
/-- there just one, -/
theorem duties_on (h : part b t c = true) : (Rd X).duties (cell b t c) 0 = {0} := by rw [duties_cell, if_pos h]
/-- elsewhere none; -/
theorem duties_off (h : part b t c = false) (r : ℕ) : (Rd X).duties (cell b t c) r = ∅ := by
  by_cases hr : r = 0
  · subst hr; rw [duties_cell, h]; rfl
  · dsimp only [Rd]; rw [if_neg fun h => hr h.1]
/-- after the first round there are none. -/
theorem duties_later (g : GSem nD τ sig) (r : ℕ) (hr : 1 ≤ r) : (Rd X).duties g r = ∅ := by
  dsimp only [Rd]; rw [if_neg fun h => by omega]

/-- A signal counts one, -/
theorem amount_bar (d : Fin 4) : (Rd X).amount (barCell c) 0 d = 1 := by
  show (match kind (.reg (barrier0 : Sem sig)) with | some (some (_, t)) => N t | _ => 1) = 1
  rw [kind_bar]
/-- a transfer its count. -/
theorem amount_cell (d : Fin 4) : (Rd X).amount (cell b t c) 0 d = N t := by
  show (match kind (.dma (dsem b t)) with | some (some (_, t)) => N t | _ => 1) = N t
  rw [kind_cell]

/-- A signal hands over the pieces that the neighbour writes, -/
theorem payload_bar (d : Fin 4) : (Rd X).payload (barCell c) 0 d = barPay c d := by
  show (match kind (.reg (barrier0 : Sem sig)) with | some none => barPay c d | some (some (true, t)) => Land X t c | some (some (false, t)) => Src X t c | none => iprop(emp)) = _
  rw [kind_bar]
/-- a landing the piece that came, -/
theorem payload_recv (d : Fin 4) : (Rd X).payload (cell true t c) 0 d = Land X t c := by
  show (match kind (.dma (dsem true t)) with | some none => barPay c d | some (some (true, t)) => Land X t c | some (some (false, t)) => Src X t c | none => iprop(emp)) = _
  rw [kind_cell]
/-- a completed send what was read. -/
theorem payload_send (d : Fin 4) : (Rd X).payload (cell false t c) 0 d = Src X t c := by
  show (match kind (.dma (dsem false t)) with | some none => barPay c d | some (some (true, t)) => Land X t c | some (some (false, t)) => Src X t c | none => iprop(emp)) = _
  rw [kind_cell]

/-- How many units a barrier wait awaits: one for each neighbour. -/
def deg (c : Dev nD) : Nat := (Finset.univ.filter fun d : Fin 4 => has d c = true).card
/-- The barrier's wait is for as many units as there are neighbours. -/
theorem deg_nbrs : ∀ c : Dev nD, (nbrs c).toInt = (deg c : Int) := by decide +kernel

/-- A barrier's round has a unit for each neighbour, -/
theorem expect_bar : (Rd X).expect (barCell c) 0 = deg c := by
  unfold Schedule.expect Schedule.amountOf deg
  rw [duties_bar, Finset.sum_congr rfl fun d _ => amount_bar X c d, Finset.sum_const, smul_eq_mul, Nat.mul_one]
/-- a transfer's its count. -/
theorem expect_cell (h : part b t c = true) : (Rd X).expect (cell b t c) 0 = N t := by
  unfold Schedule.expect Schedule.amountOf; rw [duties_on X c b t h, Finset.sum_singleton, amount_cell]

/-- All that a receive cell hands over, -/
theorem rest_recv (h : rcv t c = true) :
    bigSep ((Rd X).duties (cell true t c) 0 \ ∅) (fun d => (Rd X).payload (cell true t c) 0 d) = Land X t c := by
  rw [Finset.sdiff_empty, duties_on X c true t h, bigSep_singleton, payload_recv]
/-- a send cell, -/
theorem rest_send (h : snd t c = true) :
    bigSep ((Rd X).duties (cell false t c) 0 \ ∅) (fun d => (Rd X).payload (cell false t c) 0 d) = Src X t c := by
  rw [Finset.sdiff_empty, duties_on X c false t h, bigSep_singleton, payload_send]
/-- and a barrier cell. -/
theorem rest_bar :
    bigSep ((Rd X).duties (barCell c) 0 \ ∅) (fun d => (Rd X).payload (barCell c) 0 d)
      = bigSep (Finset.univ.filter fun d => has d c = true) (barPay c) := by
  rw [Finset.sdiff_empty, duties_bar]
  exact bigSep_congr fun d _ => payload_bar X c d

end Sched

/-! ## What a device owes, and the order of waits -/

/-- What device `c` owes for transfer `t`: the count of its piece, to the addressee's receive cell. -/
def pay (t : T) (c : Dev nD) : CellTallies nD τ sig Unit := if snd t c = true then tallyAt (cell true t (tgt t c)) () (N t) else 0
/-- What it still owes for transfers when it has come past making those of `s`. -/
def debt (s : T → Bool) (c : Dev nD) : CellTallies nD τ sig Unit := ∑ t : T, if s t = true then 0 else pay t c
/-- What it owes a neighbour's barrier. -/
def toll (d : Fin 4) (c : Dev nD) : CellTallies nD τ sig Unit := if has d c = true then tallyAt (barCell (nb d c)) () 1 else 0
/-- All it owes at the start. -/
def O₀ (c : Dev nD) : CellTallies nD τ sig Unit := debt (fun _ => false) c + toll 3 c + toll 2 c + toll 1 c + toll 0 c

/-- A transfer made is owed no more; -/
theorem debt_mark (s : T → Bool) (c : Dev nD) (t : T) (h : s t = false) : debt s c = debt (mark s t) c + pay t c := by
  unfold debt
  rw [← Finset.add_sum_erase _ _ (Finset.mem_univ t), ← Finset.add_sum_erase (a := t) _ (fun u => if mark s t u = true then (0 : CellTallies nD τ sig Unit) else pay u c) (Finset.mem_univ t)]
  rw [h, mark_self, if_neg Bool.false_ne_true, if_pos rfl, zero_add, add_comm]
  congr 1
  exact Finset.sum_congr rfl fun u hu => by rw [mark_ne s (Finset.ne_of_mem_erase hu)]
/-- when all are made nothing is owed. -/
theorem debt_all (s : T → Bool) (c : Dev nD) (h : ∀ t, s t = true) : debt s c = 0 := by
  unfold debt; exact Finset.sum_eq_zero fun t _ => if_pos (h t)

/-- A transfer is owed to its addressee's receive cell, -/
theorem pay_pos {t : T} {c : Dev nD} {g : GSem nD τ sig} {u : Unit} (h : 0 < pay t c g u) : snd t c = true ∧ g = cell true t (tgt t c) := by
  unfold pay at h
  by_cases hs : snd t c = true
  · rw [if_pos hs, tallyAt_apply] at h
    refine ⟨hs, ?_⟩
    by_contra hn
    rw [if_neg fun h' => hn h'.1] at h
    exact Nat.lt_irrefl 0 h
  · rw [if_neg hs] at h; exact absurd h (Nat.lt_irrefl 0)
/-- so what is owed is owed to such a cell, of a transfer not yet made. -/
theorem debt_pos {s : T → Bool} {c : Dev nD} {g : GSem nD τ sig} {u : Unit} (h : 0 < debt s c g u) :
    ∃ t, s t = false ∧ g = cell true t (tgt t c) := by
  by_contra hn
  have h0 : debt s c g u = 0 := by
    unfold debt
    rw [Finset.sum_apply, Finsupp.finset_sum_apply]
    refine Finset.sum_eq_zero fun t _ => ?_
    cases hs : s t with
    | true => rw [if_pos rfl]; rfl
    | false =>
      rw [if_neg Bool.false_ne_true]
      exact Nat.eq_zero_of_not_pos fun hp => hn ⟨t, hs, (pay_pos hp).2⟩
  omega
/-- A signal is owed to the neighbour's barrier cell. -/
theorem toll_pos {d : Fin 4} {c : Dev nD} {g : GSem nD τ sig} {u : Unit} (h : 0 < toll d c g u) : g = barCell (nb d c) := by
  unfold toll at h
  by_cases hs : has d c = true
  · rw [if_pos hs, tallyAt_apply] at h
    by_contra hn
    rw [if_neg fun h' => hn h'.1] at h
    exact Nat.lt_irrefl 0 h
  · rw [if_neg hs] at h; exact absurd h (Nat.lt_irrefl 0)
/-- What is owed at the start is one or the other. -/
theorem O₀_pos {c : Dev nD} {g : GSem nD τ sig} {u : Unit} (h : 0 < O₀ c g u) :
    (∃ t, g = cell true t (tgt t c)) ∨ ∃ d, g = barCell (nb d c) := by
  by_contra hn
  have h1 : debt (fun _ => false) c g u = 0 := Nat.eq_zero_of_not_pos fun hp => hn (Or.inl (let ⟨t, _, ht⟩ := debt_pos hp; ⟨t, ht⟩))
  have h2 (d : Fin 4) : toll d c g u = 0 := Nat.eq_zero_of_not_pos fun hp => hn (Or.inr ⟨d, toll_pos hp⟩)
  unfold O₀ at h
  simp only [Pi.add_apply, Finsupp.add_apply, h1, h2] at h
  exact Nat.lt_irrefl 0 h

/-- Every cell of a core is waited on under one index, -/
def L (g : GSem nD τ sig) : Finset Unit := if g.1.2 = .tc then {()} else ∅
/-- on a rung: staging and send cells at 0, barriers at 1, receive cells at theirs. -/
def lv (g : GSem nD τ sig) (_ : Unit) : ℕ :=
  match kind g.2 with
  | some none => 1
  | some (some (true, t)) => rung t
  | _ => 0

/-- Only the cores' own threads wait, -/
theorem L_of_ne (g : GSem nD τ sig) (h : g.1.2 ≠ .tc) : L g = ∅ := if_neg h
/-- each of them in one way. -/
theorem L_tc (c : Dev nD) (sm : SemLoc sig) : L ((c : Thread nD τ), sm) = {()} := if_pos rfl
/-- A barrier's level, -/
theorem lv_bar (c : Dev nD) (u : Unit) : lv (barCell c) u = 1 := by
  show (match kind (.reg (barrier0 : Sem sig)) with | some none => 1 | some (some (true, t)) => rung t | _ => 0) = 1
  rw [kind_bar]
/-- and a receive cell's. -/
theorem lv_recv (t : T) (c : Dev nD) (u : Unit) : lv (cell true t c) u = rung t := by
  show (match kind (.dma (dsem true t)) with | some none => 1 | some (some (true, t)) => rung t | _ => 0) = rung t
  rw [kind_cell]

omit [FloatOps F] in
/-- A device may wait on a receive cell while everything it still owes is above it, -/
theorem mayWait_recv (c : Dev nD) (t : T) (s : T → Bool) (h : ∀ u, s u = false → rung t < rung u) :
    (levAts L lv : sProp 𝕄) ⊢ MayWait (c : Thread nD τ) (.dma (dsem true t)) () (debt s c) :=
  MayOwe.of_cut (L := L) (lev := lv) (rung t) (fun p hp => by rw [Finset.mem_singleton.mp hp, L_tc]; exact Finset.mem_singleton_self _)
    (fun g u hg => by obtain ⟨t', _, rfl⟩ := debt_pos hg; exact Finset.mem_singleton_self _)
    (fun p hp => by rw [Finset.mem_singleton.mp hp]; exact (lv_recv t c ()).le)
    (fun g u hg => by obtain ⟨t', h', rfl⟩ := debt_pos hg; rw [lv_recv]; exact h t' h')
omit [FloatOps F] in
/-- on its barrier once it has paid its neighbours', -/
theorem mayWait_bar (c : Dev nD) (s : T → Bool) :
    (levAts L lv : sProp 𝕄) ⊢ MayWait (c : Thread nD τ) (.reg (barrier0 : Sem sig)) () (debt s c) :=
  MayOwe.of_cut (L := L) (lev := lv) 1 (fun p hp => by rw [Finset.mem_singleton.mp hp, L_tc]; exact Finset.mem_singleton_self _)
    (fun g u hg => by obtain ⟨t', _, rfl⟩ := debt_pos hg; exact Finset.mem_singleton_self _)
    (fun p hp => by rw [Finset.mem_singleton.mp hp]; exact (lv_bar c ()).le)
    (fun g u hg => by obtain ⟨t', _, rfl⟩ := debt_pos hg; rw [lv_recv]; exact rung_gt t')
omit [FloatOps F] in
/-- and on a staging semaphore at the start and when nothing is owed. -/
theorem mayWait_stage (c : Dev nD) (q : DmaSem sig) (hq : decN q.val = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by
        rw [Finset.mem_singleton.mp hp]
        show (match (decN q.val).map some with | some none => 1 | some (some (true, t)) => rung t | _ => 0) ≤ 0
        rw [hq]; exact Nat.le_refl 0)
      (fun g u hg => by
        rcases O₀_pos hg with ⟨t, rfl⟩ | ⟨d, rfl⟩
        · rw [lv_recv]; exact Nat.lt_of_succ_lt (rung_gt t)
        · rw [lv_bar]; exact Nat.one_pos)
  · rw [MayWait_zero]; iintro -; iempintro

end Cert.Gather

end
-- ==== Proof.Split.lean ====
/-
# Regrouping what is held

The gathered array as the device's own rows and the pieces it receives; an arrived piece as what its forwarders read and
what stays; the pieces a device offers its neighbours, by neighbour and by transfer.
-/
module

public import proofs.«01_k».proof.Proof.Sched

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Iterated conjunctions -/

omit [FloatOps F] in
/-- Assertions that entail each other are equal. -/
theorem eqv {P Q : sProp 𝕄} (h : P ⊣⊢ Q) : P = Q := equiv_iff.mp ⟨h.1, h.2⟩
omit [FloatOps F] in
/-- Two assertions that give each other are one, -/
theorem eqv_of {P Q : sProp 𝕄} (h₁ : P ⊢ Q) (h₂ : Q ⊢ P) : P = Q := equiv_iff.mp ⟨h₁, h₂⟩

omit [FloatOps F] in
/-- nothing beside an assertion may be left out on the right, -/
theorem sepEmp (P : sProp 𝕄) : iprop(P ∗ emp) = P := eqv sep_emp
omit [FloatOps F] in
/-- and on the left, -/
theorem empSep (P : sProp 𝕄) : iprop(emp ∗ P) = P := eqv emp_sep
omit [FloatOps F] in
/-- and three may be bracketed either way. -/
theorem sepAssoc (P Q R : sProp 𝕄) : iprop((P ∗ Q) ∗ R) = iprop(P ∗ Q ∗ R) := eqv_of BI.sep_assoc BI.sep_assoc'

omit [FloatOps F] in
/-- What holds one by one holds of all together. -/
theorem all_mono {I : Type} [Fintype I] {Φ Ψ : I → sProp 𝕄} (h : ∀ i, Φ i ⊢ Ψ i) : bigSep Finset.univ Φ ⊢ bigSep Finset.univ Ψ :=
  bigSep_mono fun i _ => h i

omit [FloatOps F] in
/-- A conjunction over the indices with a property. -/
theorem bigSep_if {I : Type} (s : Finset I) (p : I → Prop) [DecidablePred p] (Φ : I → sProp 𝕄) :
    bigSep (s.filter p) Φ = bigSep s fun i => if p i then Φ i else iprop(emp) := bigSep_filter s p Φ

omit [FloatOps F] in
/-- Nothing, many times, is nothing. -/
theorem bigSep_none {J : Type} (s : Finset J) : (bigSep s fun _ => iprop(emp) : sProp 𝕄) = iprop(emp) := bigSep_emp_const s

omit [FloatOps F] in
/-- Only the one summand that is chosen counts. -/
theorem bigSep_one {J : Type} [Fintype J] [DecidableEq J] (a : J) (P : sProp 𝕄) :
    bigSep Finset.univ (fun j : J => if a = j then P else iprop(emp)) = P := by
  rw [bigSep_univ_split a, if_pos rfl, bigSep_congr (Ψ := fun _ => iprop(emp)) fun j hj => if_neg (Finset.ne_of_mem_erase hj).symm, bigSep_none]
  exact eqv sep_emp

omit [FloatOps F] in
/-- A conjunction regrouped by a function of its index. -/
theorem bigSep_by {I J : Type} [Fintype I] [Fintype J] [DecidableEq J] (g : I → J) (Φ : I → sProp 𝕄) :
    bigSep Finset.univ (fun j : J => bigSep Finset.univ fun i : I => if g i = j then Φ i else iprop(emp)) = bigSep Finset.univ Φ := by
  rw [bigSep_univ_comm]
  exact bigSep_congr fun i _ => bigSep_one (g i) (Φ i)

omit [FloatOps F] in
/-- Two conjunctions that differ at one index only have the rest in common. -/
theorem bigSep_at {I : Type} [Fintype I] [DecidableEq I] {Φ Ψ : I → sProp 𝕄} (i : I) (h : ∀ j, j ≠ i → Φ j = Ψ j) :
    ∃ R : sProp 𝕄, bigSep Finset.univ Φ = iprop(Φ i ∗ R) ∧ bigSep Finset.univ Ψ = iprop(Ψ i ∗ R) :=
  ⟨_, bigSep_univ_split i, by
    rw [bigSep_univ_split i]
    exact congrArg (fun R => iprop(Ψ i ∗ R)) (bigSep_congr fun j hj => (h j (Finset.ne_of_mem_erase hj)).symm)⟩

/-! ## Shares and halves -/

omit [FloatOps F] in
/-- A piece held whole is the piece in three shares. -/
theorem o_three (c : Dev nD) (S : Finset OI) (f : OC F) :
    (oPts c S fullShare f : sProp 𝕄) = iprop(oPts c S fullShare.left f ∗ oPts c S fullShare.right.left f ∗ oPts c S fullShare.right.right f) := by
  rw [← eqv (pointsTo_share (PosShare.mem_left_op_right fullShare.right)), ← eqv (pointsTo_share (PosShare.mem_left_op_right fullShare))]
omit [FloatOps F] in
/-- A quarter is its two halves. -/
theorem o_halves (c : Dev nD) (j q : Fin 4) (s : PosShare TreeShare) (f : OC F) :
    (oPts c (rset (j, q, 0)) s f : sProp 𝕄) = iprop(oPts c (rset (j, q, 1)) s f ∗ oPts c (rset (j, q, 2)) s f) := by
  rw [halves]; exact eqv (pointsTo_union (halves_disjoint j q))

variable (X : Dev nD → XC F)

/-- What stays of an arrived piece when its forwarders' parts are taken: of a quarter come along `z` for the last time,
    the share that would go on; of a quarter from a plane neighbour, the half not passed on; of a half, all. -/
def Rest (p : T) (c : Dev nD) : sProp 𝕄 :=
  match p with
  | (0, f, 2) => oPts c (rset (lR (0, f, 2) c)) fullShare.left (gat X)
  | (0, _, _) => iprop(emp)
  | (1, f, h) => oPts c (rset ((lR (1, f, h) c).1, (lR (1, f, h) c).2.1, 2)) fullShare (gat X)
  | (2, f, h) => oPts c (rset ((lR (2, f, h) c).1, (lR (2, f, h) c).2.1, 1)) fullShare (gat X)
  | p => Land X p c

/-- What waits for the first hop along `z`: the next hop and the two passes into the plane; -/
theorem kids_z0 : ∀ f : Bool, (Finset.univ.filter fun u : T => dep u = some (0, f, 0)) = {(0, f, 1), (1, f, 0), (2, f, 0)} := by decide
/-- for the second the same; -/
theorem kids_z1 : ∀ f : Bool, (Finset.univ.filter fun u : T => dep u = some (0, f, 1)) = {(0, f, 2), (1, f, 1), (2, f, 1)} := by decide
/-- for the third only the passes into the plane; -/
theorem kids_z2 : ∀ f : Bool, (Finset.univ.filter fun u : T => dep u = some (0, f, 2)) = {(1, f, 2), (2, f, 2)} := by decide
/-- for the pass along `x` the half passed on along `y`; -/
theorem kids_x : ∀ (f : Bool) (h : Fin 3), (Finset.univ.filter fun u : T => dep u = some (1, f, h)) = {(4, f, h)} := by decide
/-- for the pass along `y` the half passed on along `x`; -/
theorem kids_y : ∀ (f : Bool) (h : Fin 3), (Finset.univ.filter fun u : T => dep u = some (2, f, h)) = {(3, f, h)} := by decide
/-- for the halves nothing. -/
theorem kids_f : ∀ (k : Fin 5) (f : Bool) (h : Fin 3), 3 ≤ k.val → (Finset.univ.filter fun u : T => dep u = some (k, f, h)) = ∅ := by decide

/-- An arrived piece is what its forwarders read and what stays. -/
theorem land_split (p : T) (c : Dev nD) :
    Land X p c = iprop((bigSep Finset.univ fun u : T => if dep u = some p then Src X u c else iprop(emp)) ∗ Rest X p c) := by
  rw [← bigSep_if]
  have three (a b d : T) (hab : a ∉ ({b, d} : Finset T)) (hbd : b ∉ ({d} : Finset T)) (Φ : T → sProp 𝕄) :
      bigSep {a, b, d} Φ = iprop(Φ a ∗ Φ b ∗ Φ d) := by
    rw [bigSep_insert hab, bigSep_insert hbd, bigSep_singleton]; rfl
  obtain ⟨k, f, h⟩ := p
  match k, h with
  | 0, 0 =>
    rw [kids_z0, three _ _ _ (by revert f; decide) (by revert f; decide)]
    refine Eq.trans ?_ (sepEmp _).symm
    cases f <;> exact o_three c _ _
  | 0, 1 =>
    rw [kids_z1, three _ _ _ (by revert f; decide) (by revert f; decide)]
    refine Eq.trans ?_ (sepEmp _).symm
    cases f <;> exact o_three c _ _
  | 0, 2 =>
    rw [kids_z2, bigSep_insert (by revert f; decide), bigSep_singleton]
    refine (o_three c _ _).trans (Eq.trans (eqv sep_comm) ?_)
    cases f <;> rfl
  | 1, h =>
    rw [kids_x, bigSep_singleton]
    exact o_halves c _ _ _ _
  | 2, h =>
    rw [kids_y, bigSep_singleton]
    exact (o_halves c _ _ _ _).trans (eqv sep_comm)
  | 3, h =>
    rw [kids_f 3 f h (by decide), bigSep_empty]
    exact (eqv emp_sep).symm
  | 4, h =>
    rw [kids_f 4 f h (by decide), bigSep_empty]
    exact (eqv emp_sep).symm

/-! ## The device's own block -/

/-- What the device keeps of its block while the first hops read a quarter of it: all but that quarter in the shares lent,
    all of it in a third share. -/
def xRest (c : Dev nD) : sProp 𝕄 :=
  iprop(xPts c (Finset.univ \ xset c) fullShare.left (X c) ∗ xPts c (Finset.univ \ xset c) fullShare.right.left (X c))

omit [FloatOps F] in
/-- The block is its one quarter and the rest. -/
theorem x_split (c : Dev nD) (s : PosShare TreeShare) (f : XC F) :
    (xPts c Finset.univ s f : sProp 𝕄) = iprop(xPts c (xset c) s f ∗ xPts c (Finset.univ \ xset c) s f) :=
  eqv (pointsTo_split_subset (Finset.subset_univ _))

/-- The block held whole: a share of the quarter for either transfer of it, and what is kept. -/
theorem x_shares (c : Dev nD) :
    (xPts c Finset.univ fullShare (X c) : sProp 𝕄)
      = iprop((Src X (0, true, 0) c ∗ Src X (0, false, 0) c) ∗ xRest X c ∗ xPts c Finset.univ fullShare.right.right (X c)) := by
  have h₁ : (xPts c Finset.univ fullShare (X c) : sProp 𝕄) = iprop(xPts c Finset.univ fullShare.left (X c)
      ∗ xPts c Finset.univ fullShare.right.left (X c) ∗ xPts c Finset.univ fullShare.right.right (X c)) := by
    rw [← eqv (pointsTo_share (PosShare.mem_left_op_right fullShare.right)), ← eqv (pointsTo_share (PosShare.mem_left_op_right fullShare))]
  rw [h₁, x_split c fullShare.left, x_split c fullShare.right.left]
  unfold xRest
  show iprop((xPts c (xset c) fullShare.left (X c) ∗ _) ∗ (xPts c (xset c) fullShare.right.left (X c) ∗ _) ∗ _)
    = iprop((xPts c (xset c) fullShare.left (X c) ∗ xPts c (xset c) fullShare.right.left (X c)) ∗ _ ∗ _)
  refine eqv_of ?_ ?_
  · iintro ⟨⟨H1, H2⟩, ⟨H3, H4⟩, H5⟩
    isplitl [H1 H3]
    · isplitl [H1] <;> iassumption
    isplitl [H2 H4]
    · isplitl [H2] <;> iassumption
    iexact H5
  · iintro ⟨⟨H1, H3⟩, ⟨H2, H4⟩, H5⟩
    isplitl [H1 H2]
    · isplitl [H1] <;> iassumption
    isplitl [H3 H4]
    · isplitl [H3] <;> iassumption
    iexact H5

/-! ## The gathered array, all of it -/

omit [FloatOps F] in
/-- All of a device's gathered array: its own rows and the pieces it receives. -/
theorem o_split (c : Dev nD) (f : OC F) :
    (oPts c Finset.univ fullShare f : sProp 𝕄)
      = iprop(oPts c (ownRows c) fullShare f ∗ bigSep Finset.univ fun t : T => if rcv t c = true then oPts c (rset (lR t c)) fullShare f else iprop(emp)) := by
  rw [← bigSep_if]
  conv_lhs => rw [pieces_cover c]
  refine (eqv (pointsTo_union (pieces_own c))).trans ?_
  rw [pointsTo_biUnion _ _ fun t ht u hu => pieces_disjoint c t (Finset.mem_filter.1 ht).2 u (Finset.mem_filter.1 hu).2]

omit [FloatOps F] in
/-- The pieces a device receives by way of its neighbour `d`, as yet unwritten: what it offers that neighbour. -/
def offer (c : Dev nD) (d : Fin 4) : sProp 𝕄 :=
  bigSep Finset.univ fun t : T => if opp (dirOf t) = d ∧ rcv t c = true then iprop(∃ f, oPts (F := F) c (rset (lR t c)) fullShare f) else iprop(emp)

omit [FloatOps F] in
/-- That is what its signal hands that neighbour. -/
theorem offer_eq (c : Dev nD) (d : Fin 4) : (offer c d : sProp 𝕄) = barPay (nb d c) (opp d) := by
  unfold offer barPay
  refine bigSep_congr fun t _ => ?_
  by_cases h : opp (dirOf t) = d
  · subst h
    have hr : snd t (nb (opp (dirOf t)) c) = rcv t c := snd_org t c
    rw [opp_opp, hr]
    by_cases hs : rcv t c = true
    · rw [if_pos ⟨rfl, hs⟩, if_pos ⟨rfl, hs⟩]
      unfold Dst
      have h₁ : tgt t (nb (opp (dirOf t)) c) = c := tgt_org t c
      have h₂ : sR t (nb (opp (dirOf t)) c) = lR t c := by rw [← lR_tgt t _ (hr.trans hs), h₁]
      rw [h₁, h₂]
    · rw [if_neg fun h => hs h.2, if_neg fun h => hs h.2]
  · rw [if_neg fun h' => h h'.1, if_neg fun h' => h (by rw [h'.1, opp_opp])]

omit [FloatOps F] in
/-- A device's own rows and an offer for each neighbour. -/
theorem o_offers (c : Dev nD) (f : OC F) :
    (oPts c Finset.univ fullShare f : sProp 𝕄) ⊢ iprop(oPts c (ownRows c) fullShare f ∗ offer c 0 ∗ offer c 1 ∗ offer c 2 ∗ offer c 3) := by
  rw [o_split]
  refine BI.sep_mono_r ?_
  refine (all_mono (Ψ := fun t : T => if rcv t c = true then iprop(∃ f, oPts (F := F) c (rset (lR t c)) fullShare f) else iprop(emp)) fun t => ?_).trans ?_
  · split
    · iintro H; iexists f; iexact H
    · iintro H; iexact H
  · rw [← bigSep_by (fun t : T => opp (dirOf t)), bigSep_univ_eq_bigSepL [0, 1, 2, 3] (by decide) (by decide), bigSepL_cons_cons, bigSepL_cons_cons, bigSepL_cons_cons, bigSepL_singleton]
    have h (d : Fin 4) : (bigSep Finset.univ fun t : T => if opp (dirOf t) = d then (if rcv t c = true then iprop(∃ f, oPts (F := F) c (rset (lR t c)) fullShare f) else iprop(emp)) else iprop(emp) : sProp 𝕄) = offer c d := by
      unfold offer
      refine bigSep_congr fun t _ => ?_
      by_cases h₁ : opp (dirOf t) = d <;> by_cases h₂ : rcv t c = true <;> simp [h₁, h₂]
    rw [h, h, h, h]
    exact .refl

omit [FloatOps F] in
/-- What all the neighbours' signals hand a device: the place of every transfer it makes. -/
theorem places (c : Dev nD) :
    (bigSep (Finset.univ.filter fun d => has d c = true) (barPay c) : sProp 𝕄)
      = bigSep Finset.univ fun t : T => if snd t c = true then Dst (F := F) t c else iprop(emp) := by
  rw [bigSep_if, ← bigSep_by dirOf]
  refine bigSep_congr fun d _ => ?_
  by_cases hd : has d c = true
  · rw [if_pos hd]
    unfold barPay
    refine bigSep_congr fun t _ => ?_
    by_cases h₁ : dirOf t = d <;> by_cases h₂ : snd t c = true <;> simp [h₁, h₂]
  · rw [if_neg hd]
    refine (Eq.trans (bigSep_congr (Ψ := fun _ => iprop(emp)) fun t _ => ?_) (bigSep_none _)).symm
    by_cases h₁ : dirOf t = d
    · rw [if_pos h₁, if_neg]
      intro h₂; exact hd (h₁ ▸ snd_has t c h₂)
    · rw [if_neg h₁]

/-- Whether what a transfer reads has come, everything received. -/
def come (r : T → Bool) (t : T) (c : Dev nD) : Bool := match dep t with | none => true | some p => r p && rcv p c

/-- What depends on no arrival is what the first hops read. -/
theorem own_srcs (c : Dev nD) :
    (bigSep Finset.univ fun t : T => if dep t = none then Src X t c else iprop(emp)) = iprop(Src X (0, true, 0) c ∗ Src X (0, false, 0) c) := by
  rw [← bigSep_if, show (Finset.univ.filter fun t : T => dep t = none) = {(0, true, 0), (0, false, 0)} by decide,
    bigSep_insert (by decide), bigSep_singleton]
  rfl

/-- When everything has come and nothing is lent, the pieces are whole again, and the first hops' quarter is back. -/
theorem o_join (c : Dev nD) :
    iprop((bigSep Finset.univ fun t : T => if come (fun _ => true) t c = true then Src X t c else iprop(emp))
        ∗ (bigSep Finset.univ fun t : T => if rcv t c = true then Rest X t c else iprop(emp)))
      = iprop((Src X (0, true, 0) c ∗ Src X (0, false, 0) c) ∗ bigSep Finset.univ fun t : T => if rcv t c = true then Land X t c else iprop(emp)) := by
  have hland : (bigSep Finset.univ fun t : T => if rcv t c = true then Land X t c else iprop(emp))
      = iprop((bigSep Finset.univ fun t : T => bigSep Finset.univ fun u : T => if dep u = some t ∧ rcv t c = true then Src X u c else iprop(emp))
        ∗ bigSep Finset.univ fun t : T => if rcv t c = true then Rest X t c else iprop(emp)) := by
    rw [← bigSep_sep']
    refine bigSep_congr fun t _ => ?_
    by_cases h : rcv t c = true
    · rw [if_pos h, if_pos h, land_split]
      exact congrArg (fun P => iprop(P ∗ Rest X t c)) (bigSep_congr fun u _ => by simp [h])
    · rw [if_neg h, if_neg h]
      refine Eq.trans (sepEmp _).symm ?_
      refine congrArg (fun P => iprop(P ∗ emp)) (Eq.trans (bigSep_congr (Ψ := fun _ => iprop(emp)) fun u _ => ?_) (bigSep_none _)).symm
      rw [if_neg fun h' => h h'.2]
  rw [hland, ← sepAssoc, bigSep_univ_comm, ← own_srcs]
  refine congrArg (fun P => iprop(P ∗ bigSep Finset.univ fun t : T => if rcv t c = true then Rest X t c else iprop(emp))) ?_
  refine Eq.trans ?_ (bigSep_sep' _ _ _)
  refine bigSep_congr fun t _ => ?_
  cases h : dep t with
  | none =>
    have h₁ : come (fun _ => true) t c = true := by unfold come; rw [h]
    rw [if_pos h₁, if_pos rfl]
    refine Eq.trans (sepEmp _).symm ?_
    refine congrArg (fun P => iprop(_ ∗ P)) (Eq.trans (bigSep_congr (Ψ := fun _ => iprop(emp)) fun u _ => ?_) (bigSep_none _)).symm
    rw [if_neg fun h' => by cases h'.1]
  | some p =>
    have h₁ : come (fun _ => true) t c = rcv p c := by unfold come; rw [h]; rfl
    rw [h₁, show (if some p = none then Src X t c else iprop(emp) : sProp 𝕄) = iprop(emp) from if_neg nofun]
    refine Eq.trans ?_ (empSep _).symm
    refine (bigSep_one p _).symm.trans (bigSep_congr fun u _ => ?_)
    by_cases hp : p = u
    · subst hp; simp
    · rw [if_neg hp, if_neg fun h' => hp (Option.some.inj h'.1)]

/-- The device's own rows as stored and every piece as it came are all of the gathered array as it is to end. -/
theorem o_whole (c : Dev nD) (f : OC F) (hf : ∀ i ∈ ownRows c, f i = outAt X c i) :
    iprop(oPts c (ownRows c) fullShare f ∗ bigSep Finset.univ fun t : T => if rcv t c = true then Land X t c else iprop(emp))
      = (oPts c Finset.univ fullShare (outAt X c) : sProp 𝕄) := by
  rw [o_split]
  refine congr (congrArg _ (pointsTo_congr hf)) (bigSep_congr fun t _ => ?_)
  by_cases h : rcv t c = true
  · rw [if_pos h, if_pos h]
    exact pointsTo_congr fun i hi => (outAt_piece X c t h i hi).symm
  · rw [if_neg h, if_neg h]

end Cert.Gather

end
-- ==== Proof.Steps.lean ====
/-
# One step after another

What a device holds when it is so far in its list of steps, and that each step takes it from one such state to the next.
-/
module

public import proofs.«01_k».proof.Proof.Split

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- That device `c`, running `p`, ends in `Q`. -/
abbrev WP {α : Type} (c : Dev nD) (p : Pg F α) (Q : α → sProp 𝕄) : sProp 𝕄 :=
  wp frame (wpE (defs₀ (F := F)) 𝒱₀ (c : Thread nD τ) none) Set.univ p Q

/-- The cells of the gather: every device's barrier cell and its side of every transfer. -/
abbrev CellIx : Type := Dev nD × Option (Bool × T)
def kcell (g : CellIx) : GSem nD τ sig := match g.2 with | none => barCell g.1 | some (b, t) => cell b t g.1

variable (X : Dev nD → XC F) (K : CellIx → ℕ)

/-- What all know of every cell: its invariant, and that round 0 is reached. -/
def records : sProp 𝕄 := bigSep Finset.univ fun g : CellIx => iprop(cellInv ER (Rd X) (K g) (kcell g) ∗ reached ER (kcell g) 0)

instance records_persistent : BI.Persistent (records X K) := by unfold records; infer_instance

/-- What is known of one cell; -/
theorem rec_at (g : CellIx) : records X K ⊢ iprop(cellInv ER (Rd X) (K g) (kcell g) ∗ reached ER (kcell g) 0) := bigSep_elim (Finset.mem_univ g)
omit [FloatOps F] in
/-- of two things the first, -/
theorem fst_of (P R : sProp 𝕄) : iprop(P ∗ R) ⊢ P := by iintro ⟨H, -⟩; iexact H
omit [FloatOps F] in
/-- of two things the second; -/
theorem snd_of (P R : sProp 𝕄) : iprop(P ∗ R) ⊢ R := by iintro ⟨-, H⟩; iexact H
/-- the invariant of a transfer's cell, -/
theorem inv_cell (b : Bool) (t : T) (c : Dev nD) : records X K ⊢ cellInv ER (Rd X) (K (c, some (b, t))) (cell b t c) :=
  (rec_at X K (c, some (b, t))).trans (fst_of _ _)
/-- its round reached, -/
theorem reached_cell (b : Bool) (t : T) (c : Dev nD) : records X K ⊢ reached ER (cell b t c) 0 :=
  (rec_at X K (c, some (b, t))).trans (snd_of _ _)
/-- the invariant of a barrier cell, -/
theorem inv_bar (c : Dev nD) : records X K ⊢ cellInv ER (Rd X) (K (c, none)) (barCell c) :=
  (rec_at X K (c, none)).trans (fst_of _ _)
/-- its round reached. -/
theorem reached_bar (c : Dev nD) : records X K ⊢ reached ER (barCell c) 0 :=
  (rec_at X K (c, none)).trans (snd_of _ _)

/-! ## The operations -/

variable {α : Type} {Q : α → sProp (MT nD τ sig Unit (Elt F) ℕ UU ℕ)} {k : Pg F α}

/-- A transfer of one piece: what is lent for reading and the place at the addressee go, and with them the device's debt
    for that transfer; the right to await its completion comes. -/
theorem wp_xfer {s : Shape} (src dst : Memref sig .tc .vmem s .f32) (t : T) (c : Dev nD) (h : snd t c = true) {q : PosShare TreeShare}
    (fs : Buf (Elt F) (src.view.loc (c : Thread nD τ))) (hN : dst.view.dmaCredit = N t)
    (hsrc : Src X t c = (src.view.loc (c : Thread nD τ) ↦[src.view.set]{q} fs))
    (hdst : Dst (F := F) t c ⊢ iprop(∃ fd : Buf (Elt F) (dst.view.loc (tgt t c : Thread nD τ)), dst.view.loc (tgt t c : Thread nD τ) ↦[dst.view.set]{fullShare} fd))
    (hland : ∀ fd : Buf (Elt F) (dst.view.loc (tgt t c : Thread nD τ)),
      (dst.view.loc (tgt t c : Thread nD τ) ↦[dst.view.set]{fullShare} (dst.view.write (Elt F) fd (src.view.read (Elt F) fs) Finset.univ)) ⊢ Land X t (tgt t c))
    (O : CellTallies nD τ sig Unit) (W : Waits sig Unit) :
    iprop(records X K ∗ Src X t c ∗ Dst (F := F) t c ∗ owes (c : Thread nD τ) (O + pay t c) W ∗ dutyTok ER (cell false t c) 0 0 ∗ dutyTok ER (cell true t (tgt t c)) 0 0
        ∗ ((cred (tallyAt (cell false t c) () (N t)) ∗ owes (c : Thread nD τ) O W) -∗ WP c k Q))
      ⊢ WP c (xfer src dst (tgt t c) (dsem false t) (dsem true t) >>= fun _ => k) Q := by
  have hr : part true t (tgt t c) = true := (rcv_tgt t c).trans h
  have hO : O + pay t c = O + tallyAt (cell true t (tgt t c)) () (N t) := by unfold pay; rw [if_pos h]
  unfold xfer
  simp only [Prog.lift, Prog.bind_op, Prog.bind_ret, Prog.pure_eq_ret]
  iintro ⟨#HR, Hs, Hd, HO, HtS, HtR, Hk⟩
  ihave Hs := (Entails.of_eq hsrc) $$ Hs
  ihave Hd := hdst $$ Hd
  icases Hd with ⟨%fd, Hd⟩
  iapply (Rounds.wp_send_pointsTo 𝒱₀ ER (Rd X) (c : Thread nD τ) none (κ₁ := K (c, some (false, t))) (κ₂ := K (tgt t c, some (true, t)))
    (r₁ := 0) (r₂ := 0) (d₁ := 0) (d₂ := 0) (fs := fs) (fd := fd)
    (by rw [duties_on X c false t h]; exact Finset.mem_singleton_self _) (by rw [duties_on X (tgt t c) true t hr]; exact Finset.mem_singleton_self _)
    () () (N t) (show dst.view.amount (.dma (dsem true t)) = N t from hN) (amount_cell X c false t 0) (amount_cell X (tgt t c) true t 0) O hO (W := W)
    (by rw [payload_send, hsrc]) (by rw [payload_recv]; exact hland fd)) $$ [Hs Hd HO HtS HtR]
  · isplitr; · iapply (inv_cell X K false t c); iexact HR
    isplitr; · iapply (inv_cell X K true t (tgt t c)); iexact HR
    isplitl [Hs]; · iexact Hs
    isplitl [Hd]; · iexact Hd
    isplitl [HO]; · iexact HO
    isplitl [HtS]; · iexact HtS
    isplitr; · iapply (reached_cell X K false t c); iexact HR
    isplitl [HtR]; · iexact HtR
    iapply (reached_cell X K true t (tgt t c)); iexact HR
  iexact Hk

/-- The first transfers are of the device's own quarter of its own block. -/
theorem sR_own : ∀ (f : Bool) (c : Dev nD), snd (0, f, 0) c = true → (sR (0, f, 0) c).1.val = zc c ∧ (sR (0, f, 0) c).2.1 = qme c := by decide +kernel

/-- The pieces within the gathered array. -/
theorem wp_slab (t : T) (c : Dev nD) (h : snd t c = true) (ho : fromOwn t = false) (hN : (slab (0, 0, 0)).view.dmaCredit = N t) (hw : (sR t c).2.2 = 0)
    (O : CellTallies nD τ sig Unit) (W : Waits sig Unit) :
    iprop(records X K ∗ Src X t c ∗ Dst (F := F) t c ∗ owes (c : Thread nD τ) (O + pay t c) W ∗ dutyTok ER (cell false t c) 0 0 ∗ dutyTok ER (cell true t (tgt t c)) 0 0
        ∗ ((cred (tallyAt (cell false t c) () (N t)) ∗ owes (c : Thread nD τ) O W) -∗ WP c k Q))
      ⊢ WP c (xfer (slab (sR t c)) (slab (sR t c)) (tgt t c) (dsem false t) (dsem true t) >>= fun _ => k) Q := by
  have hs : (slab (sR t c)).view.set = rset (sR t c) := by
    rw [slab_set]; exact congrArg (fun w => rset ((sR t c).1, (sR t c).2.1, w)) hw.symm
  refine wp_xfer X K (slab (sR t c)) (slab (sR t c)) t c h (q := lent t) (gat X) hN ?_ ?_ ?_ O W
  · unfold Src; rw [if_neg (by rw [ho]; exact Bool.false_ne_true), ← hs]; rfl
  · unfold Dst; rw [← hs]; exact .refl
  · intro fd
    unfold Land
    rw [lR_tgt t c h, ← hs]
    refine Entails.of_eq (pointsTo_congr fun i hi => slab_write X (sR t c) fd i ?_)
    rw [← slab_set]; exact hi
/-- A half of one. -/
theorem wp_half (t : T) (c : Dev nD) (h : snd t c = true) (ho : fromOwn t = false) (hN : (half (0, 0, 0)).view.dmaCredit = N t) (hw : (sR t c).2.2 ≠ 0)
    (O : CellTallies nD τ sig Unit) (W : Waits sig Unit) :
    iprop(records X K ∗ Src X t c ∗ Dst (F := F) t c ∗ owes (c : Thread nD τ) (O + pay t c) W ∗ dutyTok ER (cell false t c) 0 0 ∗ dutyTok ER (cell true t (tgt t c)) 0 0
        ∗ ((cred (tallyAt (cell false t c) () (N t)) ∗ owes (c : Thread nD τ) O W) -∗ WP c k Q))
      ⊢ WP c (xfer (half (sR t c)) (half (sR t c)) (tgt t c) (dsem false t) (dsem true t) >>= fun _ => k) Q := by
  have hs := half_set (sR t c) hw
  refine wp_xfer X K (half (sR t c)) (half (sR t c)) t c h (q := lent t) (gat X) hN ?_ ?_ ?_ O W
  · unfold Src; rw [if_neg (by rw [ho]; exact Bool.false_ne_true), ← hs]; rfl
  · unfold Dst; rw [← hs]; exact .refl
  · intro fd
    unfold Land
    rw [lR_tgt t c h, ← hs]
    refine Entails.of_eq (pointsTo_congr fun i hi => half_write X (sR t c) hw fd i ?_)
    rw [← hs]; exact hi
/-- A quarter of the device's own block. -/
theorem wp_own (f : Bool) (c : Dev nD) (h : snd (0, f, 0) c = true)
    (O : CellTallies nD τ sig Unit) (W : Waits sig Unit) :
    iprop(records X K ∗ Src X (0, f, 0) c ∗ Dst (F := F) (0, f, 0) c ∗ owes (c : Thread nD τ) (O + pay (0, f, 0) c) W ∗ dutyTok ER (cell false (0, f, 0) c) 0 0
        ∗ dutyTok ER (cell true (0, f, 0) (tgt (0, f, 0) c)) 0 0
        ∗ ((cred (tallyAt (cell false (0, f, 0) c) () (N (0, f, 0))) ∗ owes (c : Thread nD τ) O W) -∗ WP c k Q))
      ⊢ WP c (xfer (ownQ (qme c)) (slab (sR (0, f, 0) c)) (tgt (0, f, 0) c) (dsem false (0, f, 0)) (dsem true (0, f, 0)) >>= fun _ => k) Q := by
  have hs : (slab (sR (0, f, 0) c)).view.set = rset (sR (0, f, 0) c) := slab_set _
  refine wp_xfer X K (ownQ (qme c)) (slab (sR (0, f, 0) c)) (0, f, 0) c h (q := lent (0, f, 0)) (X c) rfl ?_ ?_ ?_ O W
  · unfold Src; rw [if_pos (show fromOwn (0, f, 0) = true from rfl), ← ownQ_set]; rfl
  · unfold Dst; rw [← hs]; exact .refl
  · intro fd
    unfold Land
    rw [lR_tgt (0, f, 0) c h, ← hs]
    refine Entails.of_eq (pointsTo_congr fun i hi => own_write X c (sR (0, f, 0) c) (sR_own f c h) fd i ?_)
    rw [← slab_set]; exact hi

/-- Making any transfer. -/
theorem wp_opSend (t : T) (c : Dev nD) (h : snd t c = true) (O : CellTallies nD τ sig Unit) (W : Waits sig Unit) :
    iprop(records X K ∗ Src X t c ∗ Dst (F := F) t c ∗ owes (c : Thread nD τ) (O + pay t c) W ∗ dutyTok ER (cell false t c) 0 0 ∗ dutyTok ER (cell true t (tgt t c)) 0 0
        ∗ ((cred (tallyAt (cell false t c) () (N t)) ∗ owes (c : Thread nD τ) O W) -∗ WP c k Q))
      ⊢ WP c (opSend t c >>= fun _ => k) Q := by
  obtain ⟨j, f, w⟩ := t
  match j, w with
  | 0, 0 => exact wp_own X K f c h O W
  | 0, 1 => exact wp_slab X K (0, f, 1) c h rfl rfl rfl O W
  | 0, 2 => exact wp_slab X K (0, f, 2) c h rfl rfl rfl O W
  | 1, w => exact wp_slab X K (1, f, w) c h rfl rfl rfl O W
  | 2, w => exact wp_slab X K (2, f, w) c h rfl rfl rfl O W
  | 3, w => exact wp_half X K (3, f, w) c h rfl rfl (show (2 : Fin 3) ≠ 0 by decide) O W
  | 4, w => exact wp_half X K (4, f, w) c h rfl rfl (show (1 : Fin 3) ≠ 0 by decide) O W

/-- What a side of a transfer hands over. -/
def given (b : Bool) (t : T) (c : Dev nD) : sProp 𝕄 := if b = true then Land X t c else Src X t c

/-- All that a transfer's cell hands over, on either side. -/
theorem rest_cell (b : Bool) (t : T) (c : Dev nD) (h : part b t c = true) :
    bigSep ((Rd X).duties (cell b t c) 0 \ ∅) (fun d => (Rd X).payload (cell b t c) 0 d) = given X b t c := by
  cases b with
  | true => exact rest_recv X c t h
  | false => exact rest_send X c t h

/-- Awaiting one side of a transfer. -/
theorem wp_await {s : Shape} (m : Memref sig .tc .vmem s .f32) (b : Bool) (t : T) (c : Dev nD) (h : part b t c = true) (hN : m.view.dmaCredit = N t)
    (O : CellTallies nD τ sig Unit) (W : Waits sig Unit) :
    iprop(records X K ∗ cred (tallyAt (cell b t c) () (N t)) ∗ owes (c : Thread nD τ) O W ∗ MayWait (c : Thread nD τ) (.dma (dsem b t)) () O ∗ atPos ER (cell b t c) 0 ∅ 0
        ∗ ((owes (c : Thread nD τ) O (insert (.dma (dsem b t), ()) W) ∗ atPos ER (cell b t c) 1 ∅ 0 ∗ given X b t c) -∗ WP c k Q))
      ⊢ WP c (await m (dsem b t) >>= fun _ => k) Q := by
  unfold await
  simp only [Prog.lift, Prog.bind_op, Prog.bind_ret, Prog.pure_eq_ret]
  rw [← hN]
  iintro ⟨#HR, Hc, HO, Hm, Ha, Hk⟩
  iapply (Rounds.wp_wait_rest_token 𝒱₀ ER (Rd X) (c : Thread nD τ) none (κ := K (c, some (b, t)))
      (wpE_waitDma2_eq 𝒱₀ (c : Thread nD τ) none Set.univ) (Set.mem_univ _) () (O := O) (W := W) (R := 0) (m := 0) (T := ∅)
      (by rw [Nat.zero_add, expect_cell X c b t h, hN])) $$ [Hc HO Hm Ha]
  · isplitr; · iapply (inv_cell X K b t c); iexact HR
    isplitl [Hc]; · iexact Hc
    isplitl [HO]; · iexact HO
    isplitl [Hm]; · iexact Hm
    iexact Ha
  iintro ⟨HO, Ha, -, Hp⟩
  ihave Hp := (Entails.of_eq (rest_cell X b t c h)) $$ Hp
  iapply Hk
  isplitl [HO]; · iexact HO
  isplitl [Ha]; · iexact Ha
  iexact Hp

/-- A wait on a transfer's cell: the credit and the place in the round go, what the cell hands over comes. -/
theorem wp_opWait (b : Bool) (t : T) (c : Dev nD) (h : part b t c = true) (O : CellTallies nD τ sig Unit) (W : Waits sig Unit) :
    iprop(records X K ∗ cred (tallyAt (cell b t c) () (N t)) ∗ owes (c : Thread nD τ) O W ∗ MayWait (c : Thread nD τ) (.dma (dsem b t)) () O ∗ atPos ER (cell b t c) 0 ∅ 0
        ∗ ((owes (c : Thread nD τ) O (insert (.dma (dsem b t), ()) W) ∗ atPos ER (cell b t c) 1 ∅ 0 ∗ given X b t c) -∗ WP c k Q))
      ⊢ WP c (opWait b t >>= fun _ => k) Q := by
  obtain ⟨j, f, w⟩ := t
  match b, j, w with
  | false, 0, 0 => exact wp_await X K (ownQ 0) false (0, f, 0) c h rfl O W
  | true, 0, 0 => exact wp_await X K (slab (0, 0, 0)) true (0, f, 0) c h rfl O W
  | false, 0, 1 => exact wp_await X K (slab (0, 0, 0)) false (0, f, 1) c h rfl O W
  | true, 0, 1 => exact wp_await X K (slab (0, 0, 0)) true (0, f, 1) c h rfl O W
  | false, 0, 2 => exact wp_await X K (slab (0, 0, 0)) false (0, f, 2) c h rfl O W
  | true, 0, 2 => exact wp_await X K (slab (0, 0, 0)) true (0, f, 2) c h rfl O W
  | false, 1, w => exact wp_await X K (slab (0, 0, 0)) false (1, f, w) c h rfl O W
  | true, 1, w => exact wp_await X K (slab (0, 0, 0)) true (1, f, w) c h rfl O W
  | false, 2, w => exact wp_await X K (slab (0, 0, 0)) false (2, f, w) c h rfl O W
  | true, 2, w => exact wp_await X K (slab (0, 0, 0)) true (2, f, w) c h rfl O W
  | false, 3, w => exact wp_await X K (half (0, 0, 0)) false (3, f, w) c h rfl O W
  | true, 3, w => exact wp_await X K (half (0, 0, 0)) true (3, f, w) c h rfl O W
  | false, 4, w => exact wp_await X K (half (0, 0, 0)) false (4, f, w) c h rfl O W
  | true, 4, w => exact wp_await X K (half (0, 0, 0)) true (4, f, w) c h rfl O W

/-! ## The state between steps -/

/-- What belongs to making transfer `t`, by whether it is made and whether completed; -/
def sendAt (s d : Bool) (t : T) (c : Dev nD) : sProp 𝕄 :=
  match s, d with
  | false, _ => iprop(dutyTok ER (cell false t c) 0 0 ∗ dutyTok ER (cell true t (tgt t c)) 0 0 ∗ Dst (F := F) t c ∗ atPos ER (cell false t c) 0 ∅ 0)
  | true, false => iprop(cred (tallyAt (cell false t c) () (N t)) ∗ atPos ER (cell false t c) 0 ∅ 0)
  | true, true => atPos ER (cell false t c) 1 ∅ 0
def sendSt (P : Prog₃) (c : Dev nD) (t : T) : sProp 𝕄 :=
  if snd t c = true then sendAt (P.s t) (P.d t) t c else atPos ER (cell false t c) 0 ∅ 0

/-- to receiving it; -/
def recvAt (r : Bool) (t : T) (c : Dev nD) : sProp 𝕄 :=
  match r with
  | false => iprop(cred (tallyAt (cell true t c) () (N t)) ∗ atPos ER (cell true t c) 0 ∅ 0)
  | true => iprop(Rest X t c ∗ atPos ER (cell true t c) 1 ∅ 0)
def recvSt (P : Prog₃) (c : Dev nD) (t : T) : sProp 𝕄 :=
  if rcv t c = true then recvAt X (P.r t) t c else atPos ER (cell true t c) 0 ∅ 0

/-- whether what it reads is here: come, and not lent. -/
def here (P : Prog₃) (t : T) (c : Dev nD) : Bool := come P.r t c && !(snd t c && P.s t && !P.d t)
def srcSt (P : Prog₃) (c : Dev nD) (t : T) : sProp 𝕄 := if here P t c = true then Src X t c else iprop(emp)

/-- All that a device holds when it is so far. -/
def St (P : Prog₃) (c : Dev nD) : sProp 𝕄 :=
  iprop((∃ W, owes (c : Thread nD τ) (debt P.s c) W) ∗ bigSep Finset.univ (sendSt (F := F) P c) ∗ bigSep Finset.univ (srcSt X P c) ∗ bigSep Finset.univ (recvSt X P c))

omit [FloatOps F] in
/-- States that agree on what is owed, sent, held and received are one. -/
theorem St_congr {P P' : Prog₃} {c : Dev nD} (h₁ : debt P'.s c = debt P.s c) (h₂ : ∀ t, sendSt (F := F) P' c t = sendSt P c t)
    (h₃ : ∀ t, here P' t c = here P t c) (h₄ : ∀ t, recvSt X P' c t = recvSt X P c t) : St X P' c = St X P c := by
  unfold St
  rw [h₁, funext h₂, funext h₄, show srcSt X P' c = srcSt X P c from funext fun t => by unfold srcSt; rw [h₃ t]]

/-- Receiving one transfer changes what has come for those only that wait for it; -/
theorem come_mark (r : T → Bool) (t u : T) (c : Dev nD) (h : dep u ≠ some t ∨ rcv t c = false) : come (mark r t) u c = come r u c := by
  unfold come
  cases hu : dep u with
  | none => rfl
  | some p =>
    show (mark r t p && rcv p c) = (r p && rcv p c)
    by_cases hp : p = t
    · subst hp
      rcases h with h | h
      · exact absurd hu h
      · rw [h, Bool.and_false, Bool.and_false]
    · rw [mark_ne r hp]

/-- a transfer that is due finds that its own has come. -/
theorem come_ok (P : Prog₃) (t : T) (c : Dev nD) (h : snd t c = true) (hp : ∀ p, dep t = some p → P.r p = true) : come P.r t c = true := by
  unfold come
  cases hu : dep t with
  | none => rfl
  | some p => show (P.r p && rcv p c) = true; rw [hp p hu, rcv_dep t p c hu h]; rfl

/-- A step a device has no part in changes nothing. -/
theorem St_off (P : Prog₃) (st : Step) (c : Dev nD) (hok : P.ok st) (h : active c st = false) : St X (P.step st) c = St X P c := by
  cases st with
  | send t =>
    have h : snd t c = false := h
    refine St_congr X ?_ (fun u => ?_) (fun u => ?_) fun u => rfl
    · rw [debt_mark P.s c t hok.1, pay, h, if_neg Bool.false_ne_true, add_zero]; rfl
    · unfold sendSt
      by_cases hu : u = t
      · subst hu; rw [h, if_neg Bool.false_ne_true, if_neg Bool.false_ne_true]
      · show (if _ then sendAt (mark P.s t u) _ _ _ else _) = _; rw [mark_ne P.s hu]; rfl
    · unfold here
      by_cases hu : u = t
      · subst hu; rw [h]; rfl
      · show (_ && !(_ && mark P.s t u && _)) = _; rw [mark_ne P.s hu]; rfl
  | recv t =>
    have h : rcv t c = false := h
    refine St_congr X rfl (fun u => rfl) (fun u => ?_) fun u => ?_
    · unfold here
      show (come (mark P.r t) u c && _) = _
      rw [come_mark P.r t u c (Or.inr h)]; rfl
    · unfold recvSt
      by_cases hu : u = t
      · subst hu; rw [h, if_neg Bool.false_ne_true, if_neg Bool.false_ne_true]
      · show (if _ then recvAt X (mark P.r t u) _ _ else _) = _; rw [mark_ne P.r hu]
  | drain t =>
    have h : snd t c = false := h
    refine St_congr X rfl (fun u => ?_) (fun u => ?_) fun u => rfl
    · unfold sendSt
      by_cases hu : u = t
      · subst hu; rw [h, if_neg Bool.false_ne_true, if_neg Bool.false_ne_true]
      · show (if _ then sendAt _ (mark P.d t u) _ _ else _) = _; rw [mark_ne P.d hu]; rfl
    · unfold here
      by_cases hu : u = t
      · subst hu; rw [h]; rfl
      · show (_ && !(_ && _ && !mark P.d t u)) = _; rw [mark_ne P.d hu]; rfl

/-- Making a transfer takes the state on, -/
theorem wp_send (P : Prog₃) (t : T) (c : Dev nD) (hok : P.ok (.send t)) (h : snd t c = true) :
    iprop(records X K ∗ St X P c ∗ (St X (P.step (.send t)) c -∗ WP c k Q)) ⊢ WP c (opSend t c >>= fun _ => k) Q := by
  obtain ⟨R₁, e₁, e₁'⟩ := bigSep_at (Φ := sendSt (F := F) P c) (Ψ := sendSt (P.step (.send t)) c) t fun u hu => by
    unfold sendSt; show _ = (if _ then sendAt (mark P.s t u) _ _ _ else _); rw [mark_ne P.s hu]; rfl
  obtain ⟨R₂, e₂, e₂'⟩ := bigSep_at (Φ := srcSt X P c) (Ψ := srcSt X (P.step (.send t)) c) t fun u hu => by
    unfold srcSt here; show _ = (if (_ && !(_ && mark P.s t u && _)) = true then _ else _); rw [mark_ne P.s hu]; rfl
  have f₁ : sendSt (F := F) P c t = sendAt false false t c := by unfold sendSt; rw [if_pos h, hok.1, hok.2.1]
  have f₁' : sendSt (F := F) (P.step (.send t)) c t = sendAt true false t c := by
    unfold sendSt; rw [if_pos h]; show sendAt (mark P.s t t) (P.d t) t c = _; rw [mark_self, hok.2.1]
  have f₂ : srcSt X P c t = Src X t c := by
    unfold srcSt here; rw [come_ok P t c h hok.2.2, hok.1, Bool.and_false]; exact if_pos rfl
  have f₂' : srcSt X (P.step (.send t)) c t = iprop(emp) := by
    unfold srcSt here
    show (if (_ && !(snd t c && mark P.s t t && !P.d t)) = true then _ else _) = _
    rw [h, mark_self, hok.2.1]
    exact if_neg (by rw [show (!(true && true && !false)) = false from rfl, Bool.and_false]; exact Bool.false_ne_true)
  unfold St
  rw [e₁, e₁', e₂, e₂', f₁, f₁', f₂, f₂', debt_mark P.s c t hok.1]
  unfold sendAt
  iintro ⟨#HR, ⟨⟨%W, HO⟩, ⟨⟨HtS, HtR, Hd, Ha⟩, H₁⟩, ⟨Hs, H₂⟩, H₃⟩, Hk⟩
  iapply (wp_opSend X K t c h (debt (mark P.s t) c) W)
  isplitr; · iexact HR
  isplitl [Hs]; · iexact Hs
  isplitl [Hd]; · iexact Hd
  isplitl [HO]; · iexact HO
  isplitl [HtS]; · iexact HtS
  isplitl [HtR]; · iexact HtR
  iintro ⟨Hc, HO⟩
  iapply Hk
  isplitl [HO]; · iexists W; iexact HO
  isplitl [Hc Ha H₁]
  · isplitl [Hc Ha]
    · isplitl [Hc] <;> iassumption
    · iexact H₁
  isplitl [H₂]
  · isplitr [H₂]; · iempintro
    iexact H₂
  iexact H₃

/-- awaiting an arrival too, -/
theorem wp_recv (P : Prog₃) (t : T) (c : Dev nD) (hok : P.ok (.recv t)) (h : rcv t c = true) :
    iprop(records X K ∗ levAts L lv ∗ St X P c ∗ (St X (P.step (.recv t)) c -∗ WP c k Q)) ⊢ WP c (opWait true t >>= fun _ => k) Q := by
  obtain ⟨R₁, e₁, e₁'⟩ := bigSep_at (Φ := recvSt X P c) (Ψ := recvSt X (P.step (.recv t)) c) t fun u hu => by
    unfold recvSt; show _ = (if _ then recvAt X (mark P.r t u) _ _ else _); rw [mark_ne P.r hu]
  have f₁ : recvSt X P c t = recvAt X false t c := by unfold recvSt; rw [if_pos h, hok.1]
  have f₁' : recvSt X (P.step (.recv t)) c t = recvAt X true t c := by
    unfold recvSt; rw [if_pos h]; show recvAt X (mark P.r t t) t c = _; rw [mark_self]
  have e₂ : bigSep Finset.univ (srcSt X (P.step (.recv t)) c)
      = iprop(bigSep Finset.univ (srcSt X P c) ∗ bigSep Finset.univ fun u : T => if dep u = some t then Src X u c else iprop(emp)) := by
    refine Eq.trans (bigSep_congr fun u _ => ?_) (bigSep_sep' _ _ _)
    unfold srcSt here
    show (if (come (mark P.r t) u c && _) = true then _ else _) = _
    by_cases hu : dep u = some t
    · have hc : come P.r u c = false := by unfold come; rw [hu]; show (P.r t && _) = false; rw [hok.1]; rfl
      have hc' : come (mark P.r t) u c = true := by unfold come; rw [hu]; show (mark P.r t t && rcv t c) = true; rw [mark_self, h]; rfl
      rw [hc, hc', if_pos hu]
      show (if (!(snd u c && P.s u && !P.d u)) = true then _ else _) = _
      rw [hok.2.1 u hu, Bool.and_false]
      exact (empSep _).symm
    · rw [come_mark P.r t u c (Or.inl hu), if_neg hu]
      exact (sepEmp _).symm
  unfold St
  rw [e₁, e₁', e₂, f₁, f₁']
  unfold recvAt
  iintro ⟨#HR, #Hl, ⟨⟨%W, HO⟩, H₁, H₂, ⟨Hc, Ha⟩, H₃⟩, Hk⟩
  iapply (wp_opWait X K true t c h (debt P.s c) W)
  isplitr; · iexact HR
  isplitl [Hc]; · iexact Hc
  isplitl [HO]; · iexact HO
  isplitr; · iapply (mayWait_recv c t P.s hok.2.2); iexact Hl
  isplitl [Ha]; · iexact Ha
  iintro ⟨HO, Ha, Hg⟩
  ihave Hg := (Entails.of_eq ((show given X true t c = Land X t c from if_pos rfl).trans (land_split X t c))) $$ Hg
  icases Hg with ⟨Hkids, Hrest⟩
  iapply Hk
  isplitl [HO]; · iexists _; iexact HO
  isplitl [H₁]; · iexact H₁
  isplitl [H₂ Hkids]
  · isplitl [H₂] <;> iassumption
  isplitl [Hrest Ha]
  · isplitl [Hrest] <;> iassumption
  iexact H₃

/-- and awaiting a completion. -/
theorem wp_drain (P : Prog₃) (t : T) (c : Dev nD) (hok : P.ok (.drain t)) (h : snd t c = true) :
    iprop(records X K ∗ St X P c ∗ (St X (P.step (.drain t)) c -∗ WP c k Q)) ⊢ WP c (opWait false t >>= fun _ => k) Q := by
  obtain ⟨R₁, e₁, e₁'⟩ := bigSep_at (Φ := sendSt (F := F) P c) (Ψ := sendSt (P.step (.drain t)) c) t fun u hu => by
    unfold sendSt; show _ = (if _ then sendAt _ (mark P.d t u) _ _ else _); rw [mark_ne P.d hu]; rfl
  obtain ⟨R₂, e₂, e₂'⟩ := bigSep_at (Φ := srcSt X P c) (Ψ := srcSt X (P.step (.drain t)) c) t fun u hu => by
    unfold srcSt here; show _ = (if (_ && !(_ && _ && !mark P.d t u)) = true then _ else _); rw [mark_ne P.d hu]; rfl
  have f₁ : sendSt (F := F) P c t = sendAt true false t c := by unfold sendSt; rw [if_pos h, hok.1, hok.2.1]
  have f₁' : sendSt (F := F) (P.step (.drain t)) c t = sendAt true true t c := by
    unfold sendSt; rw [if_pos h]; show sendAt (P.s t) (mark P.d t t) t c = _; rw [mark_self, hok.1]
  have f₂ : srcSt X P c t = iprop(emp) := by
    unfold srcSt here
    rw [h, hok.1, hok.2.1]
    exact if_neg (by rw [show (!(true && true && !false)) = false from rfl, Bool.and_false]; exact Bool.false_ne_true)
  have f₂' : srcSt X (P.step (.drain t)) c t = Src X t c := by
    unfold srcSt here
    show (if (come P.r t c && !(snd t c && P.s t && !mark P.d t t)) = true then _ else _) = _
    rw [mark_self, come_ok P t c h hok.2.2.1, show (!true) = false from rfl, Bool.and_false]
    exact if_pos rfl
  unfold St
  rw [e₁, e₁', e₂, e₂', f₁, f₁', f₂, f₂', show (P.step (.drain t)).s = P.s from rfl, debt_all P.s c hok.2.2.2]
  unfold sendAt
  iintro ⟨#HR, ⟨⟨%W, HO⟩, ⟨⟨Hc, Ha⟩, H₁⟩, ⟨-, H₂⟩, H₃⟩, Hk⟩
  iapply (wp_opWait X K false t c h 0 W)
  isplitr; · iexact HR
  isplitl [Hc]; · iexact Hc
  isplitl [HO]; · iexact HO
  isplitr; · rw [MayWait_zero]; iempintro
  isplitl [Ha]; · iexact Ha
  iintro ⟨HO, Ha, Hg⟩
  ihave Hg := (Entails.of_eq (show given X false t c = Src X t c from if_neg Bool.false_ne_true)) $$ Hg
  iapply Hk
  isplitl [HO]; · iexists _; iexact HO
  isplitl [Ha H₁]
  · isplitl [Ha] <;> iassumption
  isplitl [Hg H₂]
  · isplitl [Hg] <;> iassumption
  iexact H₃

/-- Any step, whether the device has a part in it or not. -/
theorem wp_act (P : Prog₃) (st : Step) (c : Dev nD) (hok : P.ok st) :
    iprop(records X K ∗ levAts L lv ∗ St X P c ∗ (St X (P.step st) c -∗ WP c k Q)) ⊢ WP c (act c st >>= fun _ => k) Q := by
  by_cases ha : active c st = true
  · unfold act
    rw [if_pos ha]
    cases st with
    | send t =>
      refine BIBase.Entails.trans ?_ (wp_send X K P t c hok ha)
      iintro ⟨HR, -, H⟩
      isplitl [HR]; · iexact HR
      iexact H
    | recv t => exact wp_recv X K P t c hok ha
    | drain t =>
      refine BIBase.Entails.trans ?_ (wp_drain X K P t c hok ha)
      iintro ⟨HR, -, H⟩
      isplitl [HR]; · iexact HR
      iexact H
  · unfold act
    rw [if_neg ha, St_off X P st c hok (Bool.eq_false_iff.2 ha)]
    simp only [pure_bind]
    iintro ⟨-, -, HS, Hk⟩
    iapply Hk $$ HS

/-- A list of steps. -/
theorem wp_runL (l : List Step) (c : Dev nD) : ∀ (P : Prog₃), P.okL l →
    (iprop(records X K ∗ levAts L lv ∗ St X P c ∗ (St X (P.steps l) c -∗ WP c k Q)) ⊢ WP c (runL c l k) Q) := by
  induction l with
  | nil =>
    intro P _
    show iprop(records X K ∗ levAts L lv ∗ St X P c ∗ (St X P c -∗ WP c k Q)) ⊢ WP c k Q
    iintro ⟨-, -, HS, Hk⟩
    iapply Hk $$ HS
  | cons st l ih =>
    intro P hok
    refine BIBase.Entails.trans ?_ (wp_act X K P st c hok.1)
    iintro ⟨#HR, #Hl, HS, Hk⟩
    isplitr; · iexact HR
    isplitr; · iexact Hl
    isplitl [HS]; · iexact HS
    iintro HS
    iapply (ih (P.step st) hok.2)
    isplitr; · iexact HR
    isplitr; · iexact Hl
    isplitl [HS]; · iexact HS
    iexact Hk

end Cert.Gather

end
-- ==== Proof.Body.lean ====
/-
# The body of the kernel on one device

From what the launch deals a device — its cells' positions, the tokens of what it is to pay, the right to await what it
is paid, its block and an array to gather in — the body comes to the array gathered and every semaphore at zero.
-/
module

public import proofs.«01_k».proof.Proof.Steps

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (K : CellIx → ℕ)

/-! ## The handshake -/

section Handshake

variable {α : Type} {Q : α → sProp (MT nD τ sig Unit (Elt F) ℕ UU ℕ)} {k : Pg F α}

/-- The signal to neighbour `d`, if there is one: it pays the unit owed and hands over what the neighbour may write here. -/
theorem wp_sg (d : Fin 4) (c : Dev nD) (O : CellTallies nD τ sig Unit) (W : Waits sig Unit) :
    iprop(records X K ∗ owes (c : Thread nD τ) (O + toll d c) W ∗ dutyTok ER (barCell (nb d c)) 0 (opp d) ∗ offer c d
        ∗ (owes (c : Thread nD τ) O W -∗ WP c k Q))
      ⊢ WP c (sgIf d c >>= fun _ => k) Q := by
  unfold sgIf toll
  by_cases h : has d c = true
  · rw [if_pos h, if_pos h]
    unfold sg
    simp only [semSignalWord, Prog.lift, Prog.bind_op, Prog.bind_ret, Prog.pure_eq_ret]
    iintro ⟨#HR, HO, Ht, Hoff, Hk⟩
    iapply (Rounds.wp_signal 𝒱₀ ER (Rd X) (c : Thread nD τ) none (dst := (nb d c : Thread nD τ)) (κ := K (nb d c, none)) (d := opp d)
      (by rw [duties_bar]; exact Finset.mem_filter.2 ⟨Finset.mem_univ _, (has_nb d c).trans h⟩)
      ((amount_bar X (nb d c) (opp d)).trans (by decide)) () O rfl) $$ [HO Ht Hoff]
    · isplitr; · iapply (inv_bar X K (nb d c)); iexact HR
      isplitl [HO]; · iexact HO
      isplitl [Ht]; · iexact Ht
      isplitl [Hoff]
      · rw [payload_bar, ← offer_eq]; iexact Hoff
      · iapply (reached_bar X K (nb d c)); iexact HR
    iexact Hk
  · rw [if_neg h, if_neg h, add_zero]
    simp only [pure_bind]
    iintro ⟨-, HO, -, -, Hk⟩
    iapply Hk $$ HO

/-- The wait for all the neighbours: with it come the places of all the device sends. -/
theorem wp_wt (c : Dev nD) (s : T → Bool) (W : Waits sig Unit) :
    iprop(records X K ∗ levAts L lv ∗ cred (tallyAt (barCell c) () (deg c)) ∗ owes (c : Thread nD τ) (debt s c) W ∗ atPos ER (barCell c) 0 ∅ 0
        ∗ ((owes (c : Thread nD τ) (debt s c) (insert (.reg (barrier0 : Sem sig), ()) W) ∗ atPos ER (barCell c) 1 ∅ 0
          ∗ bigSep Finset.univ fun t : T => if snd t c = true then Dst (F := F) t c else iprop(emp)) -∗ WP c k Q))
      ⊢ WP c (wt (nbrs c) >>= fun _ => k) Q := by
  unfold wt
  simp only [semWaitWord, Prog.lift, Prog.bind_op, Prog.bind_ret, Prog.pure_eq_ret]
  rw [deg_nbrs c]
  have he := expect_bar X c
  generalize deg c = n at he ⊢
  iintro ⟨#HR, #Hl, Hc, HO, Ha, Hk⟩
  iapply (Rounds.wp_wait_rest_token 𝒱₀ ER (Rd X) (c : Thread nD τ) none (κ := K (c, none))
      (wpE_semWait_eq 𝒱₀ (c : Thread nD τ) none Set.univ) (Set.mem_univ _) () (O := debt s c) (W := W) (R := 0) (m := 0) (T := ∅)
      (by rw [Nat.zero_add, he])) $$ [Hc HO Ha]
  · isplitr; · iapply (inv_bar X K c); iexact HR
    isplitl [Hc]; · iexact Hc
    isplitl [HO]; · iexact HO
    isplitr; · iapply (mayWait_bar c s); iexact Hl
    iexact Ha
  iintro ⟨HO, Ha, -, Hp⟩
  ihave Hp := (Entails.of_eq ((rest_bar X c).trans (places c))) $$ Hp
  iapply Hk
  isplitl [HO]; · iexact HO
  isplitl [Ha]; · iexact Ha
  iexact Hp

/-! ## The device's own block -/

/-- A region that starts at the origin. -/
theorem hz : (![0, 0] : Fin 2 → Nat) = fun _ => 0 := funext fun a => by fin_cases a <;> rfl
/-- Reading all of a block gives what it holds. -/
theorem read_x (f : XC F) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz _ f

/-- After the store the device's own rows hold what they end with. -/
theorem kept (c : Dev nD) (f : OC F) :
    (oPts c (ownRows c) fullShare (((oM : Memref sig .tc .vmem S4096x512 .f32).access (ownR c) : View sig .tc _ _ _).write (Elt F) f (k0_pay1 (X c)) Finset.univ) : sProp 𝕄)
      = oPts c (ownRows c) fullShare (outAt X c) := pointsTo_congr (keep_write X c f)

/-- The store of the device's own block to its own rows. -/
theorem wp_keep (c : Dev nD) (q : PosShare TreeShare) (f : OC F) :
    iprop(xPts c Finset.univ q (X c) ∗ oPts c (ownRows c) fullShare f
        ∗ ((xPts c Finset.univ q (X c) ∗ oPts c (ownRows c) fullShare (outAt X c)) -∗ WP c k Q))
      ⊢ WP c (keep c >>= fun _ => k) Q := by
  unfold keep
  simp only [Prog.lift, Prog.bind_op, Prog.bind_ret, Prog.pure_eq_ret]
  iintro ⟨Hx, Ho, Hk⟩
  iapply (wp_load 𝒱₀ (c : Thread nD τ) none Set.univ (m := xM) (Finset.subset_univ _)) $$ Hx; iintro Hx
  rw [read_x]
  iapply (wp_load_rect 𝒱₀ (c : Thread nD τ) none Set.univ (m := oM) (r := ownR c) (by rw [ownR_set])) $$ Ho; iintro Ho
  iapply (wp_store 𝒱₀ (c : Thread nD τ) none Set.univ (m := oM) (r := ownR c) (Mk := Finset.univ)
    (Finset.subset_of_eq (ownR_set c))) $$ Ho; iintro Ho
  iapply Hk
  isplitl [Hx]; · iexact Hx
  iapply (Entails.of_eq (kept X c f)) $$ Ho

end Handshake

/-! ## First and last state -/

/-- The start: nothing made yet. -/
theorem St_none (c : Dev nD) (W : Waits sig Unit) :
    iprop(owes (c : Thread nD τ) (debt (fun _ => false) c) W
        ∗ (bigSep Finset.univ fun t : T => iprop(dutyTok ER (cell false t c) 0 0 ∗ dutyTok ER (cell true t (tgt t c)) 0 0))
        ∗ (bigSep Finset.univ fun t : T => if snd t c = true then Dst (F := F) t c else iprop(emp))
        ∗ (bigSep Finset.univ fun t : T => atPos ER (cell false t c) 0 ∅ 0)
        ∗ (bigSep Finset.univ fun t : T => if rcv t c = true then cred (tallyAt (cell true t c) () (N t)) else iprop(emp))
        ∗ (bigSep Finset.univ fun t : T => atPos ER (cell true t c) 0 ∅ 0)
        ∗ Src X (0, true, 0) c ∗ Src X (0, false, 0) c)
      ⊢ St X Prog₃.none c := by
  have hs : iprop((bigSep Finset.univ fun t : T => iprop(dutyTok ER (cell false t c) 0 0 ∗ dutyTok ER (cell true t (tgt t c)) 0 0))
        ∗ (bigSep Finset.univ fun t : T => if snd t c = true then Dst (F := F) t c else iprop(emp))
        ∗ (bigSep Finset.univ fun t : T => atPos ER (cell false t c) 0 ∅ 0))
      ⊢ bigSep Finset.univ (sendSt (F := F) Prog₃.none c) := by
    rw [← bigSep_sep', ← bigSep_sep']
    refine all_mono fun t => ?_
    unfold sendSt
    by_cases h : snd t c = true
    · rw [if_pos h, if_pos h]
      show _ ⊢ iprop(dutyTok ER (cell false t c) 0 0 ∗ dutyTok ER (cell true t (tgt t c)) 0 0 ∗ Dst (F := F) t c ∗ atPos ER (cell false t c) 0 ∅ 0)
      iintro ⟨⟨H1, H2⟩, H3, H4⟩
      isplitl [H1]; · iexact H1
      isplitl [H2]; · iexact H2
      isplitl [H3] <;> iassumption
    · rw [if_neg h, if_neg h]
      iintro ⟨-, -, H⟩; iexact H
  have hr : iprop((bigSep Finset.univ fun t : T => if rcv t c = true then cred (tallyAt (cell true t c) () (N t)) else iprop(emp))
        ∗ (bigSep Finset.univ fun t : T => atPos ER (cell true t c) 0 ∅ 0))
      ⊢ bigSep Finset.univ (recvSt X Prog₃.none c) := by
    rw [← bigSep_sep']
    refine all_mono fun t => ?_
    unfold recvSt
    by_cases h : rcv t c = true
    · rw [if_pos h, if_pos h]; exact .refl
    · rw [if_neg h, if_neg h]
      iintro ⟨-, H⟩; iexact H
  have hx : iprop(Src X (0, true, 0) c ∗ Src X (0, false, 0) c) = bigSep Finset.univ (srcSt X Prog₃.none c) := by
    rw [← own_srcs]
    refine bigSep_congr fun t _ => ?_
    unfold srcSt here come
    cases hd : dep t with
    | none =>
      rw [if_pos rfl, show Prog₃.none.s t = false from rfl, Bool.and_false]
      exact (if_pos rfl).symm
    | some p => rw [if_neg nofun, if_neg]; exact nofun
  unfold St
  iintro ⟨HO, Ht, Hd, Ha, Hc, Hb, Hx⟩
  isplitl [HO]; · iexists W; iexact HO
  isplitl [Ht Hd Ha]
  · iapply hs
    isplitl [Ht]; · iexact Ht
    isplitl [Hd] <;> iassumption
  isplitl [Hx]; · iapply (Entails.of_eq hx); iexact Hx
  iapply hr
  isplitl [Hc] <;> iassumption

/-- How many rounds of a cell are over when the body ends. -/
def ended (b : Bool) (t : T) (c : Dev nD) : ℕ := if part b t c = true then 1 else 0

/-- The end: all made, received and completed. -/
theorem St_fin (c : Dev nD) :
    St X fin c ⊢ iprop((∃ W, owes (c : Thread nD τ) 0 W)
      ∗ (bigSep Finset.univ fun t : T => atPos ER (cell false t c) (ended false t c) ∅ 0)
      ∗ ((bigSep Finset.univ fun t : T => if come (fun _ => true) t c = true then Src X t c else iprop(emp))
        ∗ (bigSep Finset.univ fun t : T => if rcv t c = true then Rest X t c else iprop(emp)))
      ∗ (bigSep Finset.univ fun t : T => atPos ER (cell true t c) (ended true t c) ∅ 0)) := by
  have hs (t : T) : sendSt (F := F) fin c t = atPos ER (cell false t c) (ended false t c) ∅ 0 := by
    unfold sendSt ended
    rw [(fin_all t).1, (fin_all t).2.2]
    by_cases h : snd t c = true
    · rw [if_pos h, if_pos (show part false t c = true from h)]; rfl
    · rw [if_neg h, if_neg (show ¬part false t c = true from h)]
  have hx (t : T) : srcSt X fin c t = if come (fun _ => true) t c = true then Src X t c else iprop(emp) := by
    unfold srcSt here
    rw [(fin_all t).2.2, show (!true) = false from rfl, Bool.and_false, show (!false) = true from rfl, Bool.and_true,
      show fin.r = fun _ => true from funext fun u => (fin_all u).2.1]
  have hr (t : T) : recvSt X fin c t = iprop((if rcv t c = true then Rest X t c else iprop(emp)) ∗ atPos ER (cell true t c) (ended true t c) ∅ 0) := by
    unfold recvSt ended
    rw [(fin_all t).2.1]
    by_cases h : rcv t c = true
    · rw [if_pos h, if_pos h, if_pos (show part true t c = true from h)]; rfl
    · rw [if_neg h, if_neg h, if_neg (show ¬part true t c = true from h)]; exact (empSep _).symm
  unfold St
  rw [debt_all fin.s c fun t => (fin_all t).1, funext hs, funext hx, funext hr, bigSep_sep']
  iintro ⟨HO, Hs, Hx, Hr, Ha⟩
  isplitl [HO]; · iexact HO
  isplitl [Hs]; · iexact Hs
  isplitl [Hx Hr]
  · isplitl [Hx] <;> iassumption
  iexact Ha

/-! ## Closing the cells -/

/-- A cell whose rounds are over closes with its counter at zero; -/
theorem close_cell (b : Bool) (t : T) (c : Dev nD) :
    iprop(records X K ∗ atPos ER (cell b t c) (ended b t c) ∅ 0) ⊢ (|={Set.univ}=> semVal (cell b t c) 0 : sProp 𝕄) := by
  iintro ⟨#HR, Ha⟩
  iapply (Rounds.cell_close ER (Rd X) (Set.mem_univ (K (c, some (b, t)))) (fun h => h) (R := ended b t c) fun r hr => by
    cases h : part b t c with
    | true => unfold ended at hr; rw [if_pos h] at hr; exact duties_later X _ r hr
    | false => exact duties_off X c b t h r)
  isplitr; · iapply (inv_cell X K b t c); iexact HR
  iexact Ha
/-- so does a barrier's; -/
theorem close_bar (c : Dev nD) :
    iprop(records X K ∗ atPos ER (barCell c) 1 ∅ 0) ⊢ (|={Set.univ}=> semVal (barCell c) 0 : sProp 𝕄) := by
  iintro ⟨#HR, Ha⟩
  iapply (Rounds.cell_close ER (Rd X) (Set.mem_univ (K (c, none))) (fun h => h) (R := 1) fun r hr => duties_later X _ r hr)
  isplitr; · iapply (inv_bar X K c); iexact HR
  iexact Ha
/-- and one side's cells all together. -/
theorem close_side (b : Bool) (c : Dev nD) :
    iprop(records X K ∗ bigSep Finset.univ fun t : T => atPos ER (cell b t c) (ended b t c) ∅ 0)
      ⊢ (|={Set.univ}=> bigSep Finset.univ fun t : T => semVal (cell b t c) 0 : sProp 𝕄) :=
  ((sep_mono_left (BI.bigSep_of_persistent Finset.univ (records X K))).trans (by
    rw [← bigSep_sep']; exact bigSep_mono fun t _ => close_cell X K b t c)).trans (bigSep_fupd _ _)

/-! ## The whole body -/

/-- What the launch deals device `c`: what all know, its positions, and the tokens of what it pays. -/
def ghost (c : Dev nD) : sProp 𝕄 :=
  iprop(records X K
    ∗ (atPos ER (barCell c) 0 ∅ 0 ∗ (bigSep Finset.univ fun t : T => atPos ER (cell false t c) 0 ∅ 0)
      ∗ (bigSep Finset.univ fun t : T => atPos ER (cell true t c) 0 ∅ 0))
    ∗ (bigSep Finset.univ fun d : Fin 4 => dutyTok ER (barCell (nb d c)) 0 (opp d))
    ∗ (bigSep Finset.univ fun t : T => iprop(dutyTok ER (cell false t c) 0 0 ∗ dutyTok ER (cell true t (tgt t c)) 0 0)))

omit [FloatOps F] in
/-- The rights to await what it is paid. -/
def credits (c : Dev nD) : sProp 𝕄 :=
  iprop(cred (tallyAt (barCell c) () (deg c))
    ∗ (bigSep Finset.univ fun t : T => if rcv t c = true then cred (tallyAt (cell true t c) () (N t)) else iprop(emp)))

omit [FloatOps F] in
/-- All its semaphores at zero. -/
def zeros (c : Dev nD) : sProp 𝕄 :=
  iprop(semVal (barCell c) 0 ∗ (bigSep Finset.univ fun t : T => semVal (cell false t c) 0) ∗ (bigSep Finset.univ fun t : T => semVal (cell true t c) 0))

/-- What the body does on device `c`, as a list of steps. -/
abbrev bodyOf (c : Dev nD) : Pg F PUnit :=
  sg (nb 0 c) >>= fun _ => sg (nb 1 c) >>= fun _ => sgIf 2 c >>= fun _ => sgIf 3 c >>= fun _ => wt (nbrs c) >>= fun _ =>
    runL c steps₀ (keep c >>= fun _ => runL c steps₁ (pure ⟨⟩))

omit [FloatOps F] in
/-- Over the four directions, written out. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- The body from the launch to the end: the block as it was, the array gathered, the semaphores at zero. -/
theorem wp_body (c : Dev nD) (f : OC F) (W : Waits sig Unit) (Q : PUnit → sProp (MT nD τ sig Unit (Elt F) ℕ UU ℕ)) :
    iprop(ghost X K c ∗ credits c ∗ levAts L lv ∗ owes (c : Thread nD τ) (O₀ c) W ∗ xPts c Finset.univ fullShare (X c) ∗ oPts c Finset.univ fullShare f
        ∗ ((zeros c ∗ (∃ W, owes (c : Thread nD τ) 0 W) ∗ xPts c Finset.univ fullShare (X c) ∗ oPts c Finset.univ fullShare (outAt X c)) -∗ Q ⟨⟩))
      ⊢ WP c (bodyOf c) Q := by
  have h0 : (sg (nb 0 c) : Pg F PUnit) = sgIf 0 c := (if_pos rfl).symm
  have h1 : (sg (nb 1 c) : Pg F PUnit) = sgIf 1 c := (if_pos rfl).symm
  unfold bodyOf ghost credits
  rw [h0, h1, four, x_shares]
  iintro ⟨⟨#HR, ⟨HaB, HaS, HaV⟩, ⟨Ht0, Ht1, Ht2, Ht3⟩, Ht⟩, ⟨HcB, HcV⟩, #Hl, HO, ⟨⟨Hs1, Hs2⟩, Hxr, Hx⟩, Ho, Hk⟩
  ihave Ho := (o_offers c f) $$ Ho
  icases Ho with ⟨Ho, Hf0, Hf1, Hf2, Hf3⟩
  unfold O₀
  iapply (wp_sg X K 0 c)
  isplitr; · iexact HR
  isplitl [HO]; · iexact HO
  isplitl [Ht0]; · iexact Ht0
  isplitl [Hf0]; · iexact Hf0
  iintro HO
  iapply (wp_sg X K 1 c)
  isplitr; · iexact HR
  isplitl [HO]; · iexact HO
  isplitl [Ht1]; · iexact Ht1
  isplitl [Hf1]; · iexact Hf1
  iintro HO
  iapply (wp_sg X K 2 c)
  isplitr; · iexact HR
  isplitl [HO]; · iexact HO
  isplitl [Ht2]; · iexact Ht2
  isplitl [Hf2]; · iexact Hf2
  iintro HO
  iapply (wp_sg X K 3 c)
  isplitr; · iexact HR
  isplitl [HO]; · iexact HO
  isplitl [Ht3]; · iexact Ht3
  isplitl [Hf3]; · iexact Hf3
  iintro HO
  iapply (wp_wt X K c)
  isplitr; · iexact HR
  isplitr; · iexact Hl
  isplitl [HcB]; · iexact HcB
  isplitl [HO]; · iexact HO
  isplitl [HaB]; · iexact HaB
  iintro ⟨HO, HaB, Hd⟩
  ihave HS := (St_none X c _) $$ [HO Ht Hd HaS HcV HaV Hs1 Hs2]
  · isplitl [HO]; · iexact HO
    isplitl [Ht]; · iexact Ht
    isplitl [Hd]; · iexact Hd
    isplitl [HaS]; · iexact HaS
    isplitl [HcV]; · iexact HcV
    isplitl [HaV]; · iexact HaV
    isplitl [Hs1] <;> iassumption
  iapply (wp_runL X K steps₀ c Prog₃.none ok₀)
  isplitr; · iexact HR
  isplitr; · iexact Hl
  isplitl [HS]; · iexact HS
  iintro HS
  iapply (wp_keep X c)
  isplitl [Hx]; · iexact Hx
  isplitl [Ho]; · iexact Ho
  iintro ⟨Hx, Ho⟩
  iapply (wp_runL X K steps₁ c mid ok₁)
  isplitr; · iexact HR
  isplitr; · iexact Hl
  isplitl [HS]; · iexact HS
  iintro HS
  ihave HS := (show St X (mid.steps steps₁) c ⊢ _ from St_fin X c) $$ HS
  icases HS with ⟨HO, HaS, Hj, HaV⟩
  ihave Hj := (Entails.of_eq (o_join X c)) $$ Hj
  icases Hj with ⟨Hs, Hland⟩
  unfold WP
  rw [Prog.pure_eq_ret, wp_ret]
  imod (close_bar X K c) $$ [HaB] with HzB
  · isplitr; · iexact HR
    iexact HaB
  imod (close_side X K false c) $$ [HaS] with HzS
  · isplitr; · iexact HR
    iexact HaS
  imod (close_side X K true c) $$ [HaV] with HzV
  · isplitr; · iexact HR
    iexact HaV
  imodintro
  iapply Hk
  isplitl [HzB HzS HzV]
  · unfold zeros
    isplitl [HzB]; · iexact HzB
    isplitl [HzS] <;> iassumption
  isplitl [HO]; · iexact HO
  isplitl [Hs Hxr Hx]
  · isplitl [Hs]; · iexact Hs
    isplitl [Hxr] <;> iassumption
  iapply (Entails.of_eq (o_whole X c (outAt X c) fun _ _ => rfl))
  isplitl [Ho] <;> iassumption

end Cert.Gather

end
-- ==== Proof.Launch.lean ====
/-
# The launch

What the program's launch has — every semaphore at zero, the ghost state, the credit for all that is owed — dealt out to
the devices, and with the body the run of the whole program on the mesh.
-/
module

public import proofs.«01_k».proof.Proof.Body
public import Idealize.ShloMosaic.Lib.Pipeline.CollectiveSegs

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start, every counter at zero. -/
def s₀ : MemSt nD τ sig (Elt F) := ⟨m, fun _ => 0, ρ⟩

/-- The block of `x` that device `c` has. -/
def xIn (c : Dev nD) : XC F := (win0_0.blk (0 : Fin 1)).view.read (Elt F) ((s₀ m ρ).mem ((c : Thread nD τ).loc main_arg0))

/-! ## The proof's data -/

/-- What the body starts from on device `c`. -/
def start (c : Dev nD) : sProp 𝕄 := iprop((∃ K, ghost (xIn m ρ) K c) ∗ credits c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => outAt (xIn m ρ) c
  Φ t := match t with
    | ⟨0, _⟩ => start m ρ c
    | ⟨_ + 1, _⟩ => zeros c
  q _ := fullShare
  owed t := match t with
    | ⟨0, _⟩ => O₀ c
    | ⟨_ + 1, _⟩ => 0

def t₀ : Fin cfg0.N := t0_0
/-- There is one grid point. -/
theorem fin_t₀ (t : Fin cfg0.N) : t = t₀ := fin_N0 t

omit [FloatOps F] in
/-- Over the two windows, written out. -/
theorem bigSep_W (Φ : Fin cfg0.W → sProp 𝕄) : bigSep Finset.univ Φ = iprop(Φ (0 : Fin 2) ∗ Φ (1 : Fin 2)) := bigSep_W0 Φ

omit [FloatOps F] in
/-- Owning a whole buffer is holding it at what it reads as. -/
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The body's obligation -/

/-- A staging buffer of device `c`, whole, holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(zeros c ∗ (dats m ρ 0 c).owesAt () t₀.succ ∗ stg c cc0_stg0_0 (xIn m ρ c) ∗ stg c cc0_stg1_0 (outAt (xIn m ρ) c))

/-- The printed body, from what the pipeline hands it to what it hands back. -/
theorem sound_body (c : Dev nD) : bodyPre m ρ c ⊢ WP c (on (cc0_body (F := F))) (fun _ => bodyPost m ρ c) := by
  rw [body_eq]
  unfold WP
  simp only [Prog.lift, Prog.bind_op, Prog.bind_ret, wp_deviceId]
  unfold bodyPre start
  iintro ⟨⟨⟨%K, Hg⟩, Hc, Hl⟩, Ho, ⟨%d0, %g0, %hg0, Hx⟩, ⟨%d1, %g1, %hg1, Hout⟩⟩
  have hx : g0 = xIn m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  iapply (wp_body (xIn m ρ) K c g1 W fun _ => bodyPost m ρ c)
  isplitl [Hg]; · iexact Hg
  isplitl [Hc]; · iexact Hc
  isplitl [Hl]; · iexact Hl
  isplitl [HO]; · iexact HO
  isplitl [Hx]; · iexact Hx
  isplitl [Hout]; · iexact Hout
  iintro ⟨Hz, ⟨%W', HO⟩, Hx, Hout⟩
  unfold bodyPost Dat.owesAt Pipeline.owesWithin
  rw [show (dats m ρ 0 c).owed t₀.succ = 0 from rfl]
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The pipeline's obligation of the body. -/
theorem body_obligation (c : Dev nD) : BodyObligation (dats (F := F) m ρ 0 c) (defs₀ (F := F)) 𝒱₀ () Set.univ := fun t => by
  rw [fin_t₀ t]
  rw [bigSep_W, bigSep_W]
  simp only [owns_whole]
  exact sound_body m ρ c

/-! ## The cells -/

/-- The kernel's own semaphores. -/
def osem (x : Bool × T) : SemLoc sig := .dma (dsem x.1 x.2)

/-- A kernel's semaphore's kind is its index. -/
theorem osem_kind (x : Bool × T) : kind (osem x) = some (some x) := kind_cell x.1 x.2
/-- The semaphores of the windows' own copies are of no kind. -/
theorem stage_kind : ∀ (w : Fin cfg0.W) (s : Fin (cfg0.spec w).nbuf), kind (.dma ((cfg0.spec w).sem s)) = none := by decide +kernel
/-- The kernel's own semaphores are scoped, distinct, and none of a window's. -/
theorem ownSemFacts : Pipeline.OwnSemFacts cfg0.spec osem where
  isScoped := by decide +kernel
  inj x y h := by
    have h' := congrArg kind h
    rw [osem_kind, osem_kind] at h'
    exact Option.some.inj (Option.some.inj h')
  disj x w s h := by
    have h' := congrArg kind h
    rw [osem_kind] at h'
    rw [stage_kind] at h'
    cases h'

/-- The windows hold their arrays whole. -/
theorem share_eq (c : Dev nD) (w : Fin cfg0.W) : (dats m ρ 0 c).share w = fullShare := by unfold Dat.share; split <;> rfl

/-- A cell's index can be read off it, -/
theorem kcell_kind (g : CellIx) : (kcell g).1.1 = g.1 ∧ kind (kcell g).2 = some g.2 := by
  obtain ⟨c, o⟩ := g
  match o with
  | none => exact ⟨rfl, kind_bar⟩
  | some (b, t) => exact ⟨rfl, kind_cell b t⟩
/-- so distinct indices have distinct cells. -/
theorem kcell_injective : Function.Injective kcell := fun g g' h => by
  have h₁ := congrArg (fun x : GSem nD τ sig => x.1.1) h
  have h₂ := congrArg (fun x : GSem nD τ sig => kind x.2) h
  exact Prod.ext ((kcell_kind g).1.symm.trans (h₁.trans (kcell_kind g').1)) (Option.some.inj ((kcell_kind g).2.symm.trans (h₂.trans (kcell_kind g').2)))
def gCells : Finset (GSem nD τ sig) := Finset.univ.map ⟨kcell, kcell_injective⟩

/-- The duties: each direction of a barrier cell, the one of every other. -/
abbrev TokIx : Type := Dev nD × (Fin 4 ⊕ Bool × T)
def tokOf (x : TokIx) : GSem nD τ sig × ℕ × Fin 4 :=
  match x.2 with
  | .inl d => (barCell x.1, 0, d)
  | .inr (b, t) => (cell b t x.1, 0, 0)
/-- Distinct indices have distinct duties. -/
theorem tokOf_injective : Function.Injective tokOf := by
  rintro ⟨c, j⟩ ⟨c', j'⟩ h
  have hk := congrArg (fun x : GSem nD τ sig × ℕ × Fin 4 => (x.1.1.1, kind x.1.2, x.2.2)) h
  match j, j' with
  | .inl d, .inl d' =>
    have h₁ : c = c' := congrArg Prod.fst hk
    have h₂ : d = d' := congrArg (fun x : Dev nD × Option (Option (Bool × T)) × Fin 4 => x.2.2) hk
    rw [h₁, h₂]
  | .inl d, .inr (b, t) =>
    have h₂ : kind (.reg (barrier0 : Sem sig)) = kind (.dma (dsem b t)) := congrArg (fun x : Dev nD × Option (Option (Bool × T)) × Fin 4 => x.2.1) hk
    rw [kind_bar, kind_cell] at h₂; cases h₂
  | .inr (b, t), .inl d =>
    have h₂ : kind (.dma (dsem b t)) = kind (.reg (barrier0 : Sem sig)) := congrArg (fun x : Dev nD × Option (Option (Bool × T)) × Fin 4 => x.2.1) hk
    rw [kind_bar, kind_cell] at h₂; cases h₂
  | .inr (b, t), .inr (b', t') =>
    have h₁ : c = c' := congrArg Prod.fst hk
    have h₂ : kind (.dma (dsem b t)) = kind (.dma (dsem b' t')) := congrArg (fun x : Dev nD × Option (Option (Bool × T)) × Fin 4 => x.2.1) hk
    rw [kind_cell, kind_cell] at h₂
    rw [h₁, Option.some.inj (Option.some.inj h₂)]
def gToks : Finset (GSem nD τ sig × ℕ × Fin 4) := Finset.univ.map ⟨tokOf, tokOf_injective⟩

/-- The ghost state at the start. -/
def u₀ : UU := (initOf (Pipeline.cells cfgs cellOf_inj) (Pipeline.launchToks cfgs cellOf_inj), initOf gCells gToks)

omit [FloatOps F] in
/-- Over the two sides of a transfer, written out. -/
theorem two (Φ : Bool → sProp 𝕄) : bigSep Finset.univ Φ = iprop(Φ false ∗ Φ true) := bigSep_univ_eq_bigSepL [false, true] (by decide) (by decide) Φ
omit [FloatOps F] in
/-- Over a device's cells: the barrier's, the send cells and the receive cells. -/
theorem over_cells (Φ : Option (Bool × T) → sProp 𝕄) :
    bigSep Finset.univ Φ = iprop(Φ none ∗ (bigSep Finset.univ fun t : T => Φ (some (false, t))) ∗ bigSep Finset.univ fun t : T => Φ (some (true, t))) := by
  rw [bigSep_univ_equiv (Equiv.optionEquivSumPUnit.{0} (Bool × T)).symm Φ, bigSep_univ_sum, bigSep_univ_prod, two, bigSep_univ_of_subsingleton PUnit.unit]
  exact eqv sep_comm

/-! ## Dealing the ghost state -/

omit [FloatOps F] in
/-- The tokens of a device's own cells, -/
def toks (c : Dev nD) : sProp 𝕄 :=
  iprop((bigSep Finset.univ fun d : Fin 4 => dutyTok ER (barCell c) 0 d) ∗ (bigSep Finset.univ fun t : T => dutyTok ER (cell false t c) 0 0)
    ∗ (bigSep Finset.univ fun t : T => dutyTok ER (cell true t c) 0 0))
omit [FloatOps F] in
/-- and those of what it pays. -/
def payToks (c : Dev nD) : sProp 𝕄 :=
  iprop((bigSep Finset.univ fun d : Fin 4 => dutyTok ER (barCell (nb d c)) 0 (opp d))
    ∗ (bigSep Finset.univ fun t : T => iprop(dutyTok ER (cell false t c) 0 0 ∗ dutyTok ER (cell true t (tgt t c)) 0 0)))

/-- What the launch's ghost state deals device `c`. -/
def G (c : Dev nD) : sProp 𝕄 :=
  iprop((bigSep Finset.univ fun o => roundState ER (Rd (xIn m ρ)) (kcell (c, o)) 0) ∗ (bigSep Finset.univ fun o => reached ER (kcell (c, o)) 0)
    ∗ (bigSep Finset.univ fun o => atPos ER (kcell (c, o)) 0 ∅ 0) ∗ toks c)
/-- What becomes of it. -/
def G' (c : Dev nD) : sProp 𝕄 := iprop(∃ K, ghost (xIn m ρ) K c)

/-- The ghost state at the start, dealt to the devices. -/
theorem fund_gather : BI.own (ER (initOf gCells gToks)) ⊢ (|==> bigSep Finset.univ (G m ρ) : sProp 𝕄) := by
  have hX (Φ : GSem nD τ sig → sProp 𝕄) : bigSep gCells Φ = bigSep Finset.univ fun c : Dev nD => bigSep Finset.univ fun o => Φ (kcell (c, o)) := by
    unfold gCells; rw [bigSep_map, bigSep_univ_prod]; rfl
  have hT : bigSep gToks (fun x => (dutyTok ER x.1 x.2.1 x.2.2 : sProp 𝕄)) = bigSep Finset.univ fun c : Dev nD => toks c := by
    unfold gToks; rw [bigSep_map, bigSep_univ_prod]
    exact bigSep_congr fun c _ => by unfold toks; rw [bigSep_univ_sum, bigSep_univ_prod, two]; rfl
  iintro HX
  imod (Rounds.fund ER (Rd (xIn m ρ)) gCells gToks) $$ HX with ⟨Hst, Hr, Hat, Htok⟩
  imodintro
  ihave Hst := (Entails.of_eq (hX fun g => roundState ER (Rd (xIn m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat] <;> iassumption

omit [FloatOps F] in
/-- The kernel's own semaphores at zero: the send cells and the receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun t : T => semVal (cell false t c) 0) ∗ bigSep Finset.univ fun t : T => semVal (cell true t c) 0) := by
  unfold Pipeline.ownSems0; rw [bigSep_univ_prod, two]; rfl
omit [FloatOps F] in
/-- the one that is not its own is the barrier's; -/
theorem unscopedSems0_eq (c : Dev nD) : (unscopedSems0 c : sProp 𝕄) = semVal (barCell c) 0 := by
  unfold unscopedSems0; rw [bigSep_eq_bigSepL_of_eq [SemLoc.reg (barrier0 : Sem sig)] (by decide) (by decide)]; rfl

omit [FloatOps F] in
/-- together they are a device's cells. -/
theorem sems0 (c : Dev nD) :
    iprop(Pipeline.ownSems0 (Ix := Unit) (Name := ℕ) (U := UU) (Lvl := ℕ) (Val := Elt F) (τ := τ) osem c ∗ unscopedSems0 c)
      = (bigSep Finset.univ fun o => semVal (kcell (c, o)) 0 : sProp 𝕄) := by
  rw [ownSems0_eq, unscopedSems0_eq, over_cells]
  exact eqv sep_comm

/-- Each device's cells made into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (Rd (xIn m ρ)) κ (kcell (c, o))))
          ∗ (bigSep Finset.univ fun o => reached ER (kcell (c, o)) 0) ∗ (bigSep Finset.univ fun o => atPos ER (kcell (c, o)) 0 ∅ 0) ∗ toks c) := by
  unfold G
  iintro ⟨Hos, Hus, Hst, Hr⟩
  ihave Hv := (Entails.of_eq (sems0 (F := F) c)) $$ [Hos Hus]
  · isplitl [Hos] <;> iassumption
  imod (show iprop((bigSep Finset.univ fun o => semVal (kcell (c, o)) 0) ∗ bigSep Finset.univ fun o => roundState ER (Rd (xIn m ρ)) (kcell (c, o)) 0)
      ⊢ (|={Set.univ}=> bigSep Finset.univ fun o => iprop(∃ κ : ℕ, cellInv ER (Rd (xIn m ρ)) κ (kcell (c, o))) : sProp 𝕄) from by
        rw [← bigSep_sep']
        exact (bigSep_mono fun o _ => (Rounds.body_intro ER (Rd (xIn m ρ)) (kcell (c, o))).trans inv_alloc).trans (bigSep_fupd _ _)) $$ [Hv Hst] with Hinv
  · isplitl [Hv] <;> iassumption
  imodintro
  isplitl [Hinv]; · iexact Hinv
  iexact Hr

/-- The way to a neighbour and the way back. -/
def around : Dev nD × Fin 4 ≃ Dev nD × Fin 4 where
  toFun x := (nb x.2 x.1, opp x.2)
  invFun x := (nb x.2 x.1, opp x.2)
  left_inv x := Prod.ext (nb_opp x.2 x.1) (opp_opp x.2)
  right_inv x := Prod.ext (nb_opp x.2 x.1) (opp_opp x.2)
/-- A transfer's sender and its addressee. -/
def along (t : T) : Dev nD ≃ Dev nD where
  toFun := tgt t
  invFun := org t
  left_inv := org_tgt t
  right_inv := tgt_org t

omit [FloatOps F] in
/-- Each token goes to the device that pays with it. -/
theorem toks_around : (bigSep Finset.univ fun c : Dev nD => (toks c : sProp 𝕄)) ⊢ bigSep Finset.univ fun c : Dev nD => payToks c := by
  have hb : (bigSep Finset.univ fun c : Dev nD => bigSep Finset.univ fun d : Fin 4 => (dutyTok ER (barCell c) 0 d : sProp 𝕄))
      = bigSep Finset.univ fun c : Dev nD => bigSep Finset.univ fun d : Fin 4 => dutyTok ER (barCell (nb d c)) 0 (opp d) := by
    rw [← bigSep_univ_prod fun x : Dev nD × Fin 4 => (dutyTok ER (barCell x.1) 0 x.2 : sProp 𝕄), bigSep_univ_equiv around, bigSep_univ_prod]; rfl
  have hr : (bigSep Finset.univ fun c : Dev nD => bigSep Finset.univ fun t : T => (dutyTok ER (cell true t c) 0 0 : sProp 𝕄))
      = bigSep Finset.univ fun c : Dev nD => bigSep Finset.univ fun t : T => dutyTok ER (cell true t (tgt t c)) 0 0 := by
    rw [bigSep_univ_comm, bigSep_univ_comm (fun (c : Dev nD) (t : T) => (dutyTok ER (cell true t (tgt t c)) 0 0 : sProp 𝕄))]
    exact bigSep_congr fun t _ => bigSep_univ_equiv (along t) _
  unfold toks payToks
  simp only [bigSep_sep']
  rw [hb, hr]

/-- What is known of all cells and a device's part make what its body starts from. -/
theorem ghost_intro (K : CellIx → ℕ) (c : Dev nD) :
    iprop(records (xIn m ρ) K ∗ (bigSep Finset.univ fun o => atPos ER (kcell (c, o)) 0 ∅ 0) ∗ payToks c) ⊢ G' m ρ c := by
  rw [over_cells]
  unfold G' ghost payToks
  iintro ⟨HR, Ha, Ht⟩
  iexists K
  isplitl [HR]; · iexact HR
  isplitl [Ha]; · iexact Ha
  iexact Ht

/-- The devices' invariants, gathered and known to all, and each device's tokens where it pays with them. -/
theorem regroup :
    (bigSep Finset.univ fun c : Dev nD => iprop((bigSep Finset.univ fun o => iprop(∃ κ : ℕ, cellInv ER (Rd (xIn m ρ)) κ (kcell (c, o))))
          ∗ (bigSep Finset.univ fun o => reached ER (kcell (c, o)) 0) ∗ (bigSep Finset.univ fun o => atPos ER (kcell (c, o)) 0 ∅ 0) ∗ toks c) : sProp 𝕄)
      ⊢ bigSep Finset.univ (G' m ρ) := by
  rw [bigSep_sep', bigSep_sep', bigSep_sep', ← bigSep_univ_prod (fun g : CellIx => iprop(∃ κ : ℕ, cellInv ER (Rd (xIn m ρ)) κ (kcell g))),
    ← bigSep_univ_prod (fun g : CellIx => (reached ER (kcell g) 0 : sProp 𝕄))]
  iintro ⟨HI, #HR, Hat, Htok⟩
  ihave HK := (BI.bigSep_exists_pi Finset.univ (fun (g : CellIx) (κ : ℕ) => (cellInv ER (Rd (xIn m ρ)) κ (kcell g) : sProp 𝕄))) $$ HI
  icases HK with ⟨%K, #HI⟩
  ihave Htk := (toks_around (F := F)) $$ Htok
  iapply (show iprop(records (xIn m ρ) K ∗ bigSep Finset.univ fun c : Dev nD => iprop((bigSep Finset.univ fun o => atPos ER (kcell (c, o)) 0 ∅ 0) ∗ payToks c))
      ⊢ bigSep Finset.univ (G' m ρ) from
    (sep_mono_left (BI.bigSep_of_persistent Finset.univ (records (xIn m ρ) K))).trans (by
      rw [← bigSep_sep']; exact bigSep_mono fun c _ => ghost_intro m ρ K c))
  isplitr
  · unfold records
    rw [bigSep_sep']
    isplitl; · iexact HI
    iexact HR
  rw [bigSep_sep']
  isplitl [Hat]; · iexact Hat
  iexact Htk

/-- From the semaphores at zero and what was dealt to what each body starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- A transfer's cell is no barrier's. -/
theorem cell_ne_bar (b : Bool) (t : T) (c c' : Dev nD) : cell b t c ≠ barCell c' := fun h => by
  have h' : kind (.dma (dsem b t)) = kind (.reg (barrier0 : Sem sig)) := congrArg (fun g : GSem nD τ sig => kind g.2) h
  rw [kind_bar, kind_cell] at h'; cases h'
/-- Barrier cells are the same on the same device only, -/
theorem bar_eq_iff {a b : Dev nD} : barCell a = barCell b ↔ a = b :=
  ⟨fun h => congrArg (fun g : GSem nD τ sig => g.1.1) h, fun h => h ▸ rfl⟩
/-- transfers' cells for the same side, transfer and device only. -/
theorem cell_eq_iff {r r' : Bool} {t t' : T} {a b : Dev nD} : cell r t a = cell r' t' b ↔ (r = r' ∧ t = t') ∧ a = b := by
  refine ⟨fun h => ⟨?_, congrArg (fun g : GSem nD τ sig => g.1.1) h⟩, fun h => by obtain ⟨⟨rfl, rfl⟩, rfl⟩ := h; rfl⟩
  have h' : kind (.dma (dsem r t)) = kind (.dma (dsem r' t')) := congrArg (fun g : GSem nD τ sig => kind g.2) h
  rw [kind_cell, kind_cell] at h'
  exact Prod.ext_iff.1 (Option.some.inj (Option.some.inj h'))

/-- What a signal owes a barrier cell, -/
theorem toll_bar (d : Fin 4) (c c' : Dev nD) : toll d c (barCell c') () = if has d c = true ∧ nb d c = c' then 1 else 0 := by
  unfold toll
  by_cases h : has d c = true
  · rw [if_pos h, tallyAt_apply]
    by_cases h' : nb d c = c'
    · rw [if_pos ⟨by rw [h'], rfl⟩, if_pos ⟨h, h'⟩]
    · rw [if_neg fun hn => h' (bar_eq_iff.1 hn.1).symm, if_neg fun hn => h' hn.2]
  · rw [if_neg h, if_neg fun hn => h hn.1]; rfl
/-- and a transfer's cell: nothing. -/
theorem toll_cell (d : Fin 4) (c : Dev nD) (b : Bool) (t : T) (c' : Dev nD) : toll d c (cell b t c') () = 0 :=
  Nat.eq_zero_of_not_pos fun h => cell_ne_bar b t c' _ (toll_pos h)
/-- What the transfers owe a barrier cell: nothing; -/
theorem debt_bar (s : T → Bool) (c c' : Dev nD) : debt s c (barCell c') () = 0 :=
  Nat.eq_zero_of_not_pos fun h => by obtain ⟨t, _, h'⟩ := debt_pos h; exact cell_ne_bar true t _ _ h'.symm
/-- and a receive cell: its transfer's count, from the device that it comes from. -/
theorem debt_cell (c c' : Dev nD) (t : T) : debt (fun _ => false) c (cell true t c') () = if c = org t c' then (if rcv t c' = true then N t else 0) else 0 := by
  unfold debt
  rw [Finset.sum_apply, Finsupp.finset_sum_apply, Finset.sum_eq_single t]
  · rw [if_neg Bool.false_ne_true]
    unfold pay
    by_cases hc : c = org t c'
    · subst hc
      rw [if_pos rfl, snd_org, tgt_org]
      by_cases h : rcv t c' = true
      · rw [if_pos h, if_pos h, tallyAt_apply, if_pos ⟨rfl, rfl⟩]
      · rw [if_neg h, if_neg h]; rfl
    · rw [if_neg hc]
      refine Nat.eq_zero_of_not_pos fun h => hc ?_
      have h' := (cell_eq_iff.1 (pay_pos (t := t) (c := c) h).2).2
      rw [h', org_tgt]
  · intro u _ hu
    rw [if_neg Bool.false_ne_true]
    refine Nat.eq_zero_of_not_pos fun h => hu ?_
    exact (cell_eq_iff.1 (pay_pos h).2).1.2.symm
  · intro h; exact absurd (Finset.mem_univ _) h

/-- All signals to a device are as many as its neighbours. -/
theorem tolls : ∀ c : Dev nD, (∑ a : Dev nD, ((((0 + if has 3 a = true ∧ nb 3 a = c then 1 else 0) + if has 2 a = true ∧ nb 2 a = c then 1 else 0)
    + if has 1 a = true ∧ nb 1 a = c then 1 else 0) + if has 0 a = true ∧ nb 0 a = c then 1 else 0)) = deg c := by decide +kernel

/-- All that is owed a barrier cell is a unit for each neighbour; -/
theorem launch_bar (c : Dev nD) :
    tallyOn (barCell c) (launchCredit (Pipeline.owing O₀) 0 (barCell c)) = (tallyAt (barCell c) () (deg c) : CellTallies nD τ sig Unit) := by
  unfold tallyAt; refine congrArg _ (Finsupp.ext fun u => ?_); cases u
  rw [Pipeline.launchCredit_owing, Finsupp.single_eq_same, ← tolls c]
  refine Finset.sum_congr rfl fun a _ => ?_
  unfold O₀
  simp only [Pi.add_apply, Finsupp.add_apply, toll_bar, debt_bar]
/-- a receive cell, what its transfer counts. -/
theorem launch_recv (t : T) (c : Dev nD) (h : rcv t c = true) :
    tallyOn (cell true t c) (launchCredit (Pipeline.owing O₀) 0 (cell true t c)) = (tallyAt (cell true t c) () (N t) : CellTallies nD τ sig Unit) := by
  unfold tallyAt; refine congrArg _ (Finsupp.ext fun u => ?_); cases u
  rw [Pipeline.launchCredit_owing, Finsupp.single_eq_same]
  unfold O₀
  simp only [Pi.add_apply, Finsupp.add_apply, toll_cell, debt_cell, add_zero]
  rw [Finset.sum_ite_eq' Finset.univ (org t c) fun _ => _, if_pos (Finset.mem_univ _), if_pos h]

/-- Distinct transfers have distinct receive semaphores. -/
theorem recv_inj : Function.Injective fun t : T => osem (true, t) := fun t u h => congrArg Prod.snd (ownSemFacts.inj h)

omit [FloatOps F] in
/-- The launch's credits for a device are those that its body waits with. -/
theorem creds (c : Dev nD) : (Pipeline.launchCred O₀ c : sProp 𝕄) ⊢ credits c := by
  have hs : (Finset.univ.map ⟨_, recv_inj⟩ : Finset (SemLoc sig)) ⊆ Finset.univ.erase (.reg (barrier0 : Sem sig)) := by
    intro x hx
    obtain ⟨t, -, rfl⟩ := Finset.mem_map.1 hx
    exact Finset.mem_erase.2 ⟨fun h => (by cases h), Finset.mem_univ _⟩
  unfold Pipeline.launchCred credits
  rw [bigSep_univ_split (.reg (barrier0 : Sem sig)), launch_bar]
  refine BI.sep_mono_r ((bigSep_subset hs).trans ?_)
  rw [bigSep_map]
  show (_ : sProp 𝕄) ⊢ _
  refine all_mono fun t => ?_
  by_cases h : rcv t c = true
  · rw [if_pos h, ← launch_recv t c h]; exact .refl
  · rw [if_neg h]; iintro -; iempintro

/-! ## The launch's side conditions -/

/-- A device's part of the launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- Nothing more is asked for at the first point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -⟩
  iexact Hs

/-- What the body leaves is all semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, ownSems0_eq, unscopedSems0_eq]
  unfold zeros
  iintro ⟨HB, HS, HV⟩
  isplitl [HB]; · iexact HB
  isplitl [HS HV]
  · isplitl [HS] <;> iassumption
  iempintro

/-- The pipeline's own copies may be waited for at any time. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, over any float values and from any memory with its counters at zero, every weakly
    fair execution of the program ends with the windows' arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array ends as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Gather

end
-- ==== Proof.Value.lean ====
/-
# What the result is

The contents the run leaves are the gathered array, and this is the whole array of which each device had its block.
-/
module

public import proofs.«01_k».proof.Proof.Launch
public import Idealize.ShloMosaic.Lib.Layout
public import Idealize.ShloMosaic.Lib.StableHlo.Run
public import proofs.«01_k».proof.Proof.Gen.ReferenceIdeal

@[expose] public section

set_option synthInstance.maxSize 4096
set_option maxRecDepth 65536

noncomputable section

namespace Cert.Gather

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A device's block is its operand's array. -/
theorem xIn_eq (c : Dev nD) : xIn m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result's array ends as the body leaves it. -/
theorem finalA_out (c : Dev nD) : finalA m ρ c (1 : Fin 2) = outAt (xIn m ρ) c := by
  have hz : (fun a => (win0_1.index (0 : Fin 1)) a * main_v1.ty.shape.size a) = fun _ => 0 := funext fun a => by fin_cases a <;> decide
  refine (Memref.read_access_unit_zero (Elt F) main_v1 hz (fun a => by fin_cases a <;> decide) (finalA m ρ c (1 : Fin 2))).symm.trans ?_
  show (win0_1.blk (0 : Fin 1)).view.read (Elt F) (finalA m ρ c (1 : Fin 2)) = _
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The block of a whole array that device `c` has. -/
abbrev blockAt {α : Type} (c : Dev nD) (V : OI → α) : XI → α := Layout.blockN ⟨2, ![1024, 512]⟩ ⟨2, ![4096, 512]⟩ (Layout.meshBlock [2, 2, 4] ![[2], []] c) V

/-- A device at an element's height has the element's value at the element's place in its block. -/
theorem blockAt_inBlock {α : Type} (V : OI → α) (c : Dev nD) (i : OI) (h : (kOf i).1.val = zc c) : blockAt c V (inBlock i) = V i := by
  refine congrArg V (funext fun b => Fin.ext ?_)
  have h' : (i 0).val / 1024 = c.val % 4 := h
  match b with
  | ⟨0, _⟩ =>
    show (c.val / 1 % 4 * 1 + 0) * 1024 + (i 0).val % 1024 = (i 0).val
    omega
  | ⟨1, _⟩ =>
    show 0 * 512 + (i 1).val = (i 1).val
    omega

/-- The device that an element comes from is at the height of the element's block. -/
theorem source_zc (k : Key) : zc (source k) = k.1.val := by
  show (k.2.1.val * 4 + k.1.val) % 4 = k.1.val
  have := k.1.isLt
  omega

/-- Gathering the blocks of an array gives the array. -/
theorem outAt_blocks (V : OC F) (c : Dev nD) : outAt (fun d => blockAt d V) c = V := by
  funext i
  unfold outAt
  by_cases h : (kOf i).1.val = zc c
  · rw [if_pos h]; exact blockAt_inBlock V c i h
  · rw [if_neg h]; exact blockAt_inBlock V _ i (source_zc (kOf i)).symm

/-- From memories that hold each device's block of `V`, every device ends with all of `V` as its result, its operand as it was. -/
theorem run_gather (V : OC F) (hV : ∀ c : Dev nD, m ((c : Thread nD τ).loc main_arg0) = blockAt c V) :
    θ_run defs (onTc (τ := τ) (main (F := F))) ⟨m, fun _ => 0, ρ⟩ (fun r => ∀ c : Dev nD,
      r.2.mem ((c : Thread nD τ).loc main_v1) = V ∧ r.2.mem ((c : Thread nD τ).loc main_arg0) = m ((c : Thread nD τ).loc main_arg0)) :=
  (θ_run defs _ _).mono (fun _ h c => ⟨(h.1 c (1 : Fin 2)).trans ((finalA_out m ρ c).trans (by
      rw [show xIn m ρ = fun d => blockAt d V from funext fun d => (xIn_eq m ρ d).trans (hV d)]; exact outAt_blocks V c)),
    (h.1 c (0 : Fin 2)).trans (finalA_x m ρ c)⟩) (run_main m ρ)

/-- The operands end as they were, the counters at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)) ∧ r.2.sem = fun _ => 0) :=
  (θ_run defs _ _).mono (fun _ h => ⟨fun c => (h.1 c (0 : Fin 2)).trans (finalA_x m ρ c), h.2⟩) (run_main m ρ)

end Cert.Gather

/-! ## The reference -/

namespace Cert.Whole

open Cert.ReferenceIdeal Cert.ReferenceIdeal.Gen

open Idealize.ShloMosaic
open Idealize.ShloMosaic.TcCoe
open Idealize.SL.Sem

variable {F : FTy → Type} [FloatOps F]

/-- The reference returns its argument: nothing is written. -/
theorem run_same (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_arg0) = m ((c : Thread nD τ).loc main_arg0)) :=
  (θ_run defs _ _).mono (fun _ h c => h c main_arg0)
    (StableHlo.run_seq (by decide) (by decide) defs main (fun _ => []) (fun _ => rfl) (fun _ => trivial) m ρ)

end Cert.Whole

end
-- ==== Proof.lean ====
/-
# The claims

The kernel's run as `Cert.Gather` gives it and the reference's as `Cert.Whole` does, put together as the claims say.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Value

@[expose] public section

set_option maxRecDepth 65536

noncomputable section

namespace Cert.Proof

open Idealize.ShloMosaic Idealize.SL.Sem Cert.Kernel

/-- The kernel's bodies are the same text as those of its reading at exact values; -/
theorem bodies : Cert.Kernel.defs₀ (F := Bits) = Cert.KernelIdeal.defs₀ (F := Bits) := by
  funext p ℓ a
  match p, ℓ with
  | .tc, ⟨0, _⟩ => rfl
  | .scScalar _, _ => rfl
  | .scVector _ _, _ => rfl
/-- so are all that its calls name. -/
theorem tables : Cert.Kernel.defs (F := Bits) = Cert.KernelIdeal.defs (F := Bits) := congrArg (Pipeline.defs (Cert.Kernel.pcfgs (F := Bits))) bodies

/-- The kernel ends, at the machine's own floats, its operands as they were and every counter at zero: its text is that
    of its reading at exact values, and that text's run is over any values. -/
theorem frame_kernel : Cert.quiescent_Kernel := fun m g _ => by
  rw [tables]
  exact Cert.Gather.run_frame (F := Bits) m g

/-- So it does at exact values. -/
theorem frame_ideal : Cert.quiescent_KernelIdeal := fun m g _ => Cert.Gather.run_frame (F := Ideal) m g

/-- The reference ends, its argument as it was; it has no counters. -/
theorem frame_reference : Cert.quiescent_ReferenceIdeal := fun m g _ =>
  (θ_run Cert.ReferenceIdeal.defs _ _).mono (fun r h => ⟨h, sem_eq_zero_of_no_sems (by decide) r.2⟩) (Cert.Whole.run_same (F := Ideal) m g)

/-- Every device ends with the whole array, which is what the reference returns. -/
theorem value : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    Cert.Gather.run_gather (F := Ideal) m g _ hm,
    (θ_run Cert.ReferenceIdeal.defs _ _).mono (fun _ h => ⟨h 0, h 0⟩) (Cert.Whole.run_same (F := Ideal) m' g')⟩

/-- All the claims. -/
theorem claim : Cert.Claim :=
  ⟨Cert.Kernel.Gen.facts, Cert.KernelIdeal.Gen.facts, Cert.ReferenceIdeal.Gen.facts, frame_kernel, frame_ideal, frame_reference, trivial, value⟩

end Cert.Proof

end
